-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "step" .f32 0x3DD0FAC7#32 ((5 / 49 : ℝ) : EReal)
  ∧ IdealRules.named_const.Statement Cert.KernelIdeal.κ "coeff" .f32 0xC240147B#32 ((-2401 / 50 : ℝ) : EReal)
  ∧ IdealRules.named_const.Statement Cert.KernelIdeal.κ "log2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000 : Shape := ⟨1, ![10000]⟩
abbrev S10000x3 : Shape := ⟨2, ![10000, 3]⟩
abbrev S2x320000 : Shape := ⟨2, ![2, 320000]⟩
abbrev S100x128 : Shape := ⟨2, ![100, 128]⟩
abbrev S3x128x128 : Shape := ⟨3, ![3, 128, 128]⟩
abbrev S3x128x50 : Shape := ⟨3, ![3, 128, 50]⟩
abbrev S3x128 : Shape := ⟨2, ![3, 128]⟩
abbrev S1x320000 : Shape := ⟨2, ![1, 320000]⟩
abbrev S320000 : Shape := ⟨1, ![320000]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10000x128 : Shape := ⟨2, ![10000, 128]⟩
abbrev S320000x1 : Shape := ⟨2, ![320000, 1]⟩
abbrev S320000x3 : Shape := ⟨2, ![320000, 3]⟩
abbrev S1x128x128 : Shape := ⟨3, ![1, 128, 128]⟩
abbrev S128x128 : Shape := ⟨2, ![128, 128]⟩
abbrev S320000x128 : Shape := ⟨2, ![320000, 128]⟩
abbrev S1x128x50 : Shape := ⟨3, ![1, 128, 50]⟩
abbrev S128x50 : Shape := ⟨2, ![128, 50]⟩
abbrev S50x128 : Shape := ⟨2, ![50, 128]⟩
abbrev S1x128 : Shape := ⟨2, ![1, 128]⟩
abbrev S128 : Shape := ⟨1, ![128]⟩
abbrev S5000x1 : Shape := ⟨2, ![5000, 1]⟩
abbrev S5000x128 : Shape := ⟨2, ![5000, 128]⟩
abbrev S5000x50 : Shape := ⟨2, ![5000, 50]⟩

abbrev nBuf : Space → Nat
  | .hbm => 283
  | .vmem => 60
  | .smem => 0
  | _ => 0

abbrev hbmTy0_0 (i : Nat) : BufTy := match i % 128 with
  | 0 => ⟨S10000, .i32⟩
  | 1 => ⟨S10000x3, .f32⟩
  | 2 => ⟨S2x320000, .i32⟩
  | 3 => ⟨S100x128, .f32⟩
  | 4 => ⟨S3x128x128, .f32⟩
  | 5 => ⟨S3x128x50, .f32⟩
  | 6 => ⟨S3x128, .f32⟩
  | 7 => ⟨S3x128x128, .f32⟩
  | 8 => ⟨S3x128, .f32⟩
  | 9 => ⟨S3x128x128, .f32⟩
  | 10 => ⟨S3x128, .f32⟩
  | 11 => ⟨S3x128x128, .f32⟩
  | 12 => ⟨S3x128, .f32⟩
  | 13 => ⟨S1x320000, .i32⟩
  | 14 => ⟨S320000, .i32⟩
  | 15 => ⟨S1x320000, .i32⟩
  | 16 => ⟨S320000, .i32⟩
  | 17 => ⟨S_, .i32⟩
  | 18 => ⟨S10000, .i32⟩
  | 19 => ⟨S10000, .i1⟩
  | 20 => ⟨S_, .i32⟩
  | 21 => ⟨S10000, .i32⟩
  | 22 => ⟨S10000, .i32⟩
  | 23 => ⟨S10000, .i32⟩
  | 24 => ⟨S10000x1, .i32⟩
  | 25 => ⟨S1, .i32⟩
  | 26 => ⟨S_, .i32⟩
  | 27 => ⟨S10000x1, .i32⟩
  | 28 => ⟨S10000x1, .i1⟩
  | 29 => ⟨S1x1, .i32⟩
  | 30 => ⟨S10000x1, .i32⟩
  | 31 => ⟨S10000x1, .i1⟩
  | 32 => ⟨S10000x1, .i1⟩
  | 33 => ⟨S_, .i1⟩
  | 34 => ⟨S10000, .i1⟩
  | 35 => ⟨S10000x128, .f32⟩
  | 36 => ⟨S10000x128, .i1⟩
  | 37 => ⟨S_, .f32⟩
  | 38 => ⟨S10000x128, .f32⟩
  | 39 => ⟨S10000x128, .f32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S1, .i32⟩
  | 49 => ⟨S_, .i32⟩
  | 50 => ⟨S320000x1, .i32⟩
  | 51 => ⟨S320000x1, .i1⟩
  | 52 => ⟨S1x1, .i32⟩
  | 53 => ⟨S320000x1, .i32⟩
  | 54 => ⟨S320000x1, .i1⟩
  | 55 => ⟨S320000x1, .i1⟩
  | 56 => ⟨S_, .i1⟩
  | 57 => ⟨S320000, .i1⟩
  | 58 => ⟨S320000x3, .f32⟩
  | 59 => ⟨S320000x3, .i1⟩
  | 60 => ⟨S_, .f32⟩
  | 61 => ⟨S320000x3, .f32⟩
  | 62 => ⟨S320000x3, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S1, .i32⟩
  | 72 => ⟨S_, .i32⟩
  | 73 => ⟨S320000x1, .i32⟩
  | 74 => ⟨S320000x1, .i1⟩
  | 75 => ⟨S1x1, .i32⟩
  | 76 => ⟨S320000x1, .i32⟩
  | 77 => ⟨S320000x1, .i1⟩
  | 78 => ⟨S320000x1, .i1⟩
  | 79 => ⟨S_, .i1⟩
  | 80 => ⟨S320000, .i1⟩
  | 81 => ⟨S320000x3, .f32⟩
  | 82 => ⟨S320000x3, .i1⟩
  | 83 => ⟨S_, .f32⟩
  | 84 => ⟨S320000x3, .f32⟩
  | 85 => ⟨S320000x3, .f32⟩
  | 86 => ⟨S320000x3, .f32⟩
  | 87 => ⟨S320000x3, .f32⟩
  | 88 => ⟨S_, .f32⟩
  | 89 => ⟨S320000, .f32⟩
  | 90 => ⟨S320000x1, .f32⟩
  | 91 => ⟨S1x128x128, .f32⟩
  | 92 => ⟨S128x128, .f32⟩
  | 93 => ⟨S128x128, .f32⟩
  | 94 => ⟨S10000x128, .f32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S1, .i32⟩
  | 104 => ⟨S_, .i32⟩
  | 105 => ⟨S320000x1, .i32⟩
  | 106 => ⟨S320000x1, .i1⟩
  | 107 => ⟨S1x1, .i32⟩
  | 108 => ⟨S320000x1, .i32⟩
  | 109 => ⟨S320000x1, .i1⟩
  | 110 => ⟨S320000x1, .i1⟩
  | 111 => ⟨S_, .i1⟩
  | 112 => ⟨S320000, .i1⟩
  | 113 => ⟨S320000x128, .f32⟩
  | 114 => ⟨S320000x128, .i1⟩
  | 115 => ⟨S_, .f32⟩
  | 116 => ⟨S320000x128, .f32⟩
  | 117 => ⟨S320000x128, .f32⟩
  | 118 => ⟨S1x128x50, .f32⟩
  | 119 => ⟨S128x50, .f32⟩
  | 120 => ⟨S50x128, .f32⟩
  | 121 => ⟨S1x128, .f32⟩
  | 122 => ⟨S128, .f32⟩
  | 123 => ⟨S1x128, .f32⟩
  | 124 => ⟨S1x128x128, .f32⟩
  | 125 => ⟨S128x128, .f32⟩
  | 126 => ⟨S128x128, .f32⟩
  | 127 => ⟨S1x128, .f32⟩
  | _ => ⟨S10000, .i32⟩

abbrev hbmTy0_1 (i : Nat) : BufTy := match i % 128 with
  | 0 => ⟨S128, .f32⟩
  | 1 => ⟨S1x128, .f32⟩
  | 2 => ⟨S320000x128, .f32⟩
  | 3 => ⟨S_, .f32⟩
  | 4 => ⟨S10000x128, .f32⟩
  | 5 => ⟨S_, .i32⟩
  | 6 => ⟨S320000, .i32⟩
  | 7 => ⟨S320000, .i1⟩
  | 8 => ⟨S_, .i32⟩
  | 9 => ⟨S320000, .i32⟩
  | 10 => ⟨S320000, .i32⟩
  | 11 => ⟨S320000, .i32⟩
  | 12 => ⟨S320000x1, .i32⟩
  | 13 => ⟨S10000x128, .f32⟩
  | 14 => ⟨S1x128x128, .f32⟩
  | 15 => ⟨S128x128, .f32⟩
  | 16 => ⟨S128x128, .f32⟩
  | 17 => ⟨S1x128, .f32⟩
  | 18 => ⟨S128, .f32⟩
  | 19 => ⟨S1x128, .f32⟩
  | 20 => ⟨S1x128x128, .f32⟩
  | 21 => ⟨S128x128, .f32⟩
  | 22 => ⟨S128x128, .f32⟩
  | 23 => ⟨S1x128, .f32⟩
  | 24 => ⟨S128, .f32⟩
  | 25 => ⟨S1x128, .f32⟩
  | 26 => ⟨S10000x128, .f32⟩
  | 27 => ⟨S1x128x128, .f32⟩
  | 28 => ⟨S128x128, .f32⟩
  | 29 => ⟨S128x128, .f32⟩
  | 30 => ⟨S10000x128, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S1, .i32⟩
  | 40 => ⟨S_, .i32⟩
  | 41 => ⟨S320000x1, .i32⟩
  | 42 => ⟨S320000x1, .i1⟩
  | 43 => ⟨S1x1, .i32⟩
  | 44 => ⟨S320000x1, .i32⟩
  | 45 => ⟨S320000x1, .i1⟩
  | 46 => ⟨S320000x1, .i1⟩
  | 47 => ⟨S_, .i1⟩
  | 48 => ⟨S320000, .i1⟩
  | 49 => ⟨S320000x128, .f32⟩
  | 50 => ⟨S320000x128, .i1⟩
  | 51 => ⟨S_, .f32⟩
  | 52 => ⟨S320000x128, .f32⟩
  | 53 => ⟨S320000x128, .f32⟩
  | 54 => ⟨S1x128x50, .f32⟩
  | 55 => ⟨S128x50, .f32⟩
  | 56 => ⟨S50x128, .f32⟩
  | 57 => ⟨S1x128, .f32⟩
  | 58 => ⟨S128, .f32⟩
  | 59 => ⟨S1x128, .f32⟩
  | 60 => ⟨S1x128x128, .f32⟩
  | 61 => ⟨S128x128, .f32⟩
  | 62 => ⟨S128x128, .f32⟩
  | 63 => ⟨S1x128, .f32⟩
  | 64 => ⟨S128, .f32⟩
  | 65 => ⟨S1x128, .f32⟩
  | 66 => ⟨S320000x128, .f32⟩
  | 67 => ⟨S_, .f32⟩
  | 68 => ⟨S10000x128, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S10000x128, .f32⟩
  | 78 => ⟨S1x128x128, .f32⟩
  | 79 => ⟨S128x128, .f32⟩
  | 80 => ⟨S128x128, .f32⟩
  | 81 => ⟨S1x128, .f32⟩
  | 82 => ⟨S128, .f32⟩
  | 83 => ⟨S1x128, .f32⟩
  | 84 => ⟨S1x128x128, .f32⟩
  | 85 => ⟨S128x128, .f32⟩
  | 86 => ⟨S128x128, .f32⟩
  | 87 => ⟨S1x128, .f32⟩
  | 88 => ⟨S128, .f32⟩
  | 89 => ⟨S1x128, .f32⟩
  | 90 => ⟨S10000x128, .f32⟩
  | 91 => ⟨S1x128x128, .f32⟩
  | 92 => ⟨S128x128, .f32⟩
  | 93 => ⟨S128x128, .f32⟩
  | 94 => ⟨S10000x128, .f32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S1, .i32⟩
  | 104 => ⟨S_, .i32⟩
  | 105 => ⟨S320000x1, .i32⟩
  | 106 => ⟨S320000x1, .i1⟩
  | 107 => ⟨S1x1, .i32⟩
  | 108 => ⟨S320000x1, .i32⟩
  | 109 => ⟨S320000x1, .i1⟩
  | 110 => ⟨S320000x1, .i1⟩
  | 111 => ⟨S_, .i1⟩
  | 112 => ⟨S320000, .i1⟩
  | 113 => ⟨S320000x128, .f32⟩
  | 114 => ⟨S320000x128, .i1⟩
  | 115 => ⟨S_, .f32⟩
  | 116 => ⟨S320000x128, .f32⟩
  | 117 => ⟨S320000x128, .f32⟩
  | 118 => ⟨S1x128x50, .f32⟩
  | 119 => ⟨S128x50, .f32⟩
  | 120 => ⟨S50x128, .f32⟩
  | 121 => ⟨S1x128, .f32⟩
  | 122 => ⟨S128, .f32⟩
  | 123 => ⟨S1x128, .f32⟩
  | 124 => ⟨S1x128x128, .f32⟩
  | 125 => ⟨S128x128, .f32⟩
  | 126 => ⟨S128x128, .f32⟩
  | 127 => ⟨S1x128, .f32⟩
  | _ => ⟨S10000, .i32⟩

abbrev hbmTy0_2 (i : Nat) : BufTy := match i % 128 with
  | 0 => ⟨S128, .f32⟩
  | 1 => ⟨S1x128, .f32⟩
  | 2 => ⟨S320000x128, .f32⟩
  | 3 => ⟨S_, .f32⟩
  | 4 => ⟨S10000x128, .f32⟩
  | 5 => ⟨S_, .i32⟩
  | 6 => ⟨S320000, .i32⟩
  | 7 => ⟨S320000, .i1⟩
  | 8 => ⟨S_, .i32⟩
  | 9 => ⟨S320000, .i32⟩
  | 10 => ⟨S320000, .i32⟩
  | 11 => ⟨S320000, .i32⟩
  | 12 => ⟨S320000x1, .i32⟩
  | 13 => ⟨S10000x128, .f32⟩
  | 14 => ⟨S1x128x128, .f32⟩
  | 15 => ⟨S128x128, .f32⟩
  | 16 => ⟨S128x128, .f32⟩
  | 17 => ⟨S1x128, .f32⟩
  | 18 => ⟨S128, .f32⟩
  | 19 => ⟨S1x128, .f32⟩
  | 20 => ⟨S1x128x128, .f32⟩
  | 21 => ⟨S128x128, .f32⟩
  | 22 => ⟨S128x128, .f32⟩
  | 23 => ⟨S1x128, .f32⟩
  | 24 => ⟨S128, .f32⟩
  | 25 => ⟨S1x128, .f32⟩
  | 26 => ⟨S10000x128, .f32⟩
  | _ => ⟨S10000, .i32⟩

abbrev hbmTy (i : Nat) : BufTy := match i / 128 with
  | 0 => hbmTy0_0 i
  | 1 => hbmTy0_1 i
  | 2 => hbmTy0_2 i
  | _ => ⟨S10000, .i32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S50x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S10000x128, .f32⟩
  | .local _ .vmem, ⟨14, _⟩ => ⟨S10000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S10000x128, .f32⟩
  | .local _ .vmem, ⟨20, _⟩ => ⟨S10000x128, .f32⟩
  | .local _ .vmem, ⟨21, _⟩ => ⟨S128x128, .f32⟩
  | .local _ .vmem, ⟨22, _⟩ => ⟨S10000x128, .f32⟩
  | .local _ .vmem, ⟨23, _⟩ => ⟨S5000x1, .f32⟩
  | .local _ .vmem, ⟨24, _⟩ => ⟨S5000x1, .f32⟩
  | .local _ .vmem, ⟨25, _⟩ => ⟨S5000x128, .f32⟩
  | .local _ .vmem, ⟨26, _⟩ => ⟨S5000x128, .f32⟩
  | .local _ .vmem, ⟨27, _⟩ => ⟨S50x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S10000x128, .f32⟩
  | .local _ .vmem, ⟨34, _⟩ => ⟨S10000x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S10000x128, .f32⟩
  | .local _ .vmem, ⟨40, _⟩ => ⟨S10000x128, .f32⟩
  | .local _ .vmem, ⟨41, _⟩ => ⟨S128x128, .f32⟩
  | .local _ .vmem, ⟨42, _⟩ => ⟨S10000x128, .f32⟩
  | .local _ .vmem, ⟨43, _⟩ => ⟨S5000x1, .f32⟩
  | .local _ .vmem, ⟨44, _⟩ => ⟨S5000x1, .f32⟩
  | .local _ .vmem, ⟨45, _⟩ => ⟨S5000x128, .f32⟩
  | .local _ .vmem, ⟨46, _⟩ => ⟨S5000x128, .f32⟩
  | .local _ .vmem, ⟨47, _⟩ => ⟨S50x128, .f32⟩
  | .local _ .vmem, ⟨48, _⟩ => ⟨S1x128, .f32⟩
  | .local _ .vmem, ⟨49, _⟩ => ⟨S128x128, .f32⟩
  | .local _ .vmem, ⟨50, _⟩ => ⟨S1x128, .f32⟩
  | .local _ .vmem, ⟨51, _⟩ => ⟨S5000x128, .f32⟩
  | .local _ .vmem, ⟨52, _⟩ => ⟨S5000x128, .f32⟩
  | .local _ .vmem, ⟨53, _⟩ => ⟨S10000x128, .f32⟩
  | .local _ .vmem, ⟨54, _⟩ => ⟨S10000x128, .f32⟩
  | .local _ .vmem, ⟨55, _⟩ => ⟨S128x128, .f32⟩
  | .local _ .vmem, ⟨56, _⟩ => ⟨S1x128, .f32⟩
  | .local _ .vmem, ⟨57, _⟩ => ⟨S128x128, .f32⟩
  | .local _ .vmem, ⟨58, _⟩ => ⟨S1x128, .f32⟩
  | .local _ .vmem, ⟨59, _⟩ => ⟨S10000x128, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v6 : Ref sig .tc := ⟨.hbm, 85, rfl⟩
abbrev main_v7 : Ref sig .tc := ⟨.hbm, 86, rfl⟩
abbrev main_v8 : Ref sig .tc := ⟨.hbm, 87, rfl⟩
abbrev main_cst : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_call4_c : Ref sig .tc := ⟨.hbm, 95, rfl⟩
abbrev main_call4_v0 : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_c_1 : Ref sig .tc := ⟨.hbm, 103, rfl⟩
abbrev main_call4_c_2 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_3 : Ref sig .tc := ⟨.hbm, 111, rfl⟩
abbrev main_call4_v12 : Ref sig .tc := ⟨.hbm, 112, rfl⟩
abbrev main_call4_v13 : Ref sig .tc := ⟨.hbm, 113, rfl⟩
abbrev main_call4_v14 : Ref sig .tc := ⟨.hbm, 114, rfl⟩
abbrev main_call4_cst : Ref sig .tc := ⟨.hbm, 115, rfl⟩
abbrev main_call4_v15 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_v22 : Ref sig .tc := ⟨.hbm, 124, rfl⟩
abbrev main_v23 : Ref sig .tc := ⟨.hbm, 125, rfl⟩
abbrev main_v24 : Ref sig .tc := ⟨.hbm, 126, rfl⟩
abbrev main_v25 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_cst_0 : Ref sig .tc := ⟨.hbm, 131, rfl⟩
abbrev main_v29 : Ref sig .tc := ⟨.hbm, 132, rfl⟩
abbrev main_c : Ref sig .tc := ⟨.hbm, 133, rfl⟩
abbrev main_v30 : Ref sig .tc := ⟨.hbm, 134, rfl⟩
abbrev main_v31 : Ref sig .tc := ⟨.hbm, 135, rfl⟩
abbrev main_c_1 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_call8_c : Ref sig .tc := ⟨.hbm, 159, rfl⟩
abbrev main_call8_v0 : Ref sig .tc := ⟨.hbm, 160, rfl⟩
abbrev main_call8_v1 : Ref sig .tc := ⟨.hbm, 161, rfl⟩
abbrev main_call8_c_0 : Ref sig .tc := ⟨.hbm, 162, rfl⟩
abbrev main_call8_v2 : Ref sig .tc := ⟨.hbm, 163, rfl⟩
abbrev main_call8_v3 : Ref sig .tc := ⟨.hbm, 164, rfl⟩
abbrev main_call8_v4 : Ref sig .tc := ⟨.hbm, 165, rfl⟩
abbrev main_call8_v5 : Ref sig .tc := ⟨.hbm, 166, rfl⟩
abbrev main_call8_c_1 : Ref sig .tc := ⟨.hbm, 167, rfl⟩
abbrev main_call8_c_2 : Ref sig .tc := ⟨.hbm, 168, rfl⟩
abbrev main_call8_v6 : Ref sig .tc := ⟨.hbm, 169, rfl⟩
abbrev main_call8_v7 : Ref sig .tc := ⟨.hbm, 170, rfl⟩
abbrev main_call8_v8 : Ref sig .tc := ⟨.hbm, 171, rfl⟩
abbrev main_call8_v9 : Ref sig .tc := ⟨.hbm, 172, rfl⟩
abbrev main_call8_v10 : Ref sig .tc := ⟨.hbm, 173, rfl⟩
abbrev main_call8_v11 : Ref sig .tc := ⟨.hbm, 174, rfl⟩
abbrev main_call8_c_3 : Ref sig .tc := ⟨.hbm, 175, rfl⟩
abbrev main_call8_v12 : Ref sig .tc := ⟨.hbm, 176, rfl⟩
abbrev main_call8_v13 : Ref sig .tc := ⟨.hbm, 177, rfl⟩
abbrev main_call8_v14 : Ref sig .tc := ⟨.hbm, 178, rfl⟩
abbrev main_call8_cst : Ref sig .tc := ⟨.hbm, 179, rfl⟩
abbrev main_call8_v15 : Ref sig .tc := ⟨.hbm, 180, rfl⟩
abbrev main_v54 : Ref sig .tc := ⟨.hbm, 181, rfl⟩
abbrev main_v55 : Ref sig .tc := ⟨.hbm, 182, rfl⟩
abbrev main_v56 : Ref sig .tc := ⟨.hbm, 183, rfl⟩
abbrev main_v57 : Ref sig .tc := ⟨.hbm, 184, rfl⟩
abbrev main_v58 : Ref sig .tc := ⟨.hbm, 185, rfl⟩
abbrev main_v59 : Ref sig .tc := ⟨.hbm, 186, rfl⟩
abbrev main_v60 : Ref sig .tc := ⟨.hbm, 187, rfl⟩
abbrev main_v61 : Ref sig .tc := ⟨.hbm, 188, rfl⟩
abbrev main_v62 : Ref sig .tc := ⟨.hbm, 189, rfl⟩
abbrev main_v63 : Ref sig .tc := ⟨.hbm, 190, rfl⟩
abbrev main_v64 : Ref sig .tc := ⟨.hbm, 191, rfl⟩
abbrev main_v65 : Ref sig .tc := ⟨.hbm, 192, rfl⟩
abbrev main_v66 : Ref sig .tc := ⟨.hbm, 193, rfl⟩
abbrev main_v67 : Ref sig .tc := ⟨.hbm, 194, rfl⟩
abbrev main_cst_2 : Ref sig .tc := ⟨.hbm, 195, rfl⟩
abbrev main_v68 : Ref sig .tc := ⟨.hbm, 196, rfl⟩
abbrev main_c_3 : Ref sig .tc := ⟨.hbm, 197, rfl⟩
abbrev main_v69 : Ref sig .tc := ⟨.hbm, 198, rfl⟩
abbrev main_v70 : Ref sig .tc := ⟨.hbm, 199, rfl⟩
abbrev main_c_4 : Ref sig .tc := ⟨.hbm, 200, rfl⟩
abbrev main_v71 : Ref sig .tc := ⟨.hbm, 201, rfl⟩
abbrev main_v72 : Ref sig .tc := ⟨.hbm, 202, rfl⟩
abbrev main_v73 : Ref sig .tc := ⟨.hbm, 203, rfl⟩
abbrev main_v74 : Ref sig .tc := ⟨.hbm, 204, rfl⟩
abbrev main_v75 : Ref sig .tc := ⟨.hbm, 205, rfl⟩
abbrev main_v76 : Ref sig .tc := ⟨.hbm, 206, rfl⟩
abbrev main_v77 : Ref sig .tc := ⟨.hbm, 207, rfl⟩
abbrev main_v78 : Ref sig .tc := ⟨.hbm, 208, rfl⟩
abbrev main_v79 : Ref sig .tc := ⟨.hbm, 209, rfl⟩
abbrev main_v80 : Ref sig .tc := ⟨.hbm, 210, rfl⟩
abbrev main_v81 : Ref sig .tc := ⟨.hbm, 211, rfl⟩
abbrev main_v82 : Ref sig .tc := ⟨.hbm, 212, rfl⟩
abbrev main_v83 : Ref sig .tc := ⟨.hbm, 213, rfl⟩
abbrev main_v84 : Ref sig .tc := ⟨.hbm, 214, rfl⟩
abbrev main_v85 : Ref sig .tc := ⟨.hbm, 215, rfl⟩
abbrev main_v86 : Ref sig .tc := ⟨.hbm, 216, rfl⟩
abbrev main_v87 : Ref sig .tc := ⟨.hbm, 217, rfl⟩
abbrev main_v88 : Ref sig .tc := ⟨.hbm, 218, rfl⟩
abbrev main_v89 : Ref sig .tc := ⟨.hbm, 219, rfl⟩
abbrev main_v90 : Ref sig .tc := ⟨.hbm, 220, rfl⟩
abbrev main_v91 : Ref sig .tc := ⟨.hbm, 221, rfl⟩
abbrev main_v92 : Ref sig .tc := ⟨.hbm, 222, rfl⟩
abbrev main_call12_c : Ref sig .tc := ⟨.hbm, 223, rfl⟩
abbrev main_call12_v0 : Ref sig .tc := ⟨.hbm, 224, rfl⟩
abbrev main_call12_v1 : Ref sig .tc := ⟨.hbm, 225, rfl⟩
abbrev main_call12_c_0 : Ref sig .tc := ⟨.hbm, 226, rfl⟩
abbrev main_call12_v2 : Ref sig .tc := ⟨.hbm, 227, rfl⟩
abbrev main_call12_v3 : Ref sig .tc := ⟨.hbm, 228, rfl⟩
abbrev main_call12_v4 : Ref sig .tc := ⟨.hbm, 229, rfl⟩
abbrev main_call12_v5 : Ref sig .tc := ⟨.hbm, 230, rfl⟩
abbrev main_call12_c_1 : Ref sig .tc := ⟨.hbm, 231, rfl⟩
abbrev main_call12_c_2 : Ref sig .tc := ⟨.hbm, 232, rfl⟩
abbrev main_call12_v6 : Ref sig .tc := ⟨.hbm, 233, rfl⟩
abbrev main_call12_v7 : Ref sig .tc := ⟨.hbm, 234, rfl⟩
abbrev main_call12_v8 : Ref sig .tc := ⟨.hbm, 235, rfl⟩
abbrev main_call12_v9 : Ref sig .tc := ⟨.hbm, 236, rfl⟩
abbrev main_call12_v10 : Ref sig .tc := ⟨.hbm, 237, rfl⟩
abbrev main_call12_v11 : Ref sig .tc := ⟨.hbm, 238, rfl⟩
abbrev main_call12_c_3 : Ref sig .tc := ⟨.hbm, 239, rfl⟩
abbrev main_call12_v12 : Ref sig .tc := ⟨.hbm, 240, rfl⟩
abbrev main_call12_v13 : Ref sig .tc := ⟨.hbm, 241, rfl⟩
abbrev main_call12_v14 : Ref sig .tc := ⟨.hbm, 242, rfl⟩
abbrev main_call12_cst : Ref sig .tc := ⟨.hbm, 243, rfl⟩
abbrev main_call12_v15 : Ref sig .tc := ⟨.hbm, 244, rfl⟩
abbrev main_v93 : Ref sig .tc := ⟨.hbm, 245, rfl⟩
abbrev main_v94 : Ref sig .tc := ⟨.hbm, 246, rfl⟩
abbrev main_v95 : Ref sig .tc := ⟨.hbm, 247, rfl⟩
abbrev main_v96 : Ref sig .tc := ⟨.hbm, 248, rfl⟩
abbrev main_v97 : Ref sig .tc := ⟨.hbm, 249, rfl⟩
abbrev main_v98 : Ref sig .tc := ⟨.hbm, 250, rfl⟩
abbrev main_v99 : Ref sig .tc := ⟨.hbm, 251, rfl⟩
abbrev main_v100 : Ref sig .tc := ⟨.hbm, 252, rfl⟩
abbrev main_v101 : Ref sig .tc := ⟨.hbm, 253, rfl⟩
abbrev main_v102 : Ref sig .tc := ⟨.hbm, 254, rfl⟩
abbrev main_v103 : Ref sig .tc := ⟨.hbm, 255, rfl⟩
abbrev main_v104 : Ref sig .tc := ⟨.hbm, 256, rfl⟩
abbrev main_v105 : Ref sig .tc := ⟨.hbm, 257, rfl⟩
abbrev main_v106 : Ref sig .tc := ⟨.hbm, 258, rfl⟩
abbrev main_cst_5 : Ref sig .tc := ⟨.hbm, 259, rfl⟩
abbrev main_v107 : Ref sig .tc := ⟨.hbm, 260, rfl⟩
abbrev main_c_6 : Ref sig .tc := ⟨.hbm, 261, rfl⟩
abbrev main_v108 : Ref sig .tc := ⟨.hbm, 262, rfl⟩
abbrev main_v109 : Ref sig .tc := ⟨.hbm, 263, rfl⟩
abbrev main_c_7 : Ref sig .tc := ⟨.hbm, 264, rfl⟩
abbrev main_v110 : Ref sig .tc := ⟨.hbm, 265, rfl⟩
abbrev main_v111 : Ref sig .tc := ⟨.hbm, 266, rfl⟩
abbrev main_v112 : Ref sig .tc := ⟨.hbm, 267, rfl⟩
abbrev main_v113 : Ref sig .tc := ⟨.hbm, 268, rfl⟩
abbrev main_v114 : Ref sig .tc := ⟨.hbm, 269, rfl⟩
abbrev main_v115 : Ref sig .tc := ⟨.hbm, 270, rfl⟩
abbrev main_v116 : Ref sig .tc := ⟨.hbm, 271, rfl⟩
abbrev main_v117 : Ref sig .tc := ⟨.hbm, 272, rfl⟩
abbrev main_v118 : Ref sig .tc := ⟨.hbm, 273, rfl⟩
abbrev main_v119 : Ref sig .tc := ⟨.hbm, 274, rfl⟩
abbrev main_v120 : Ref sig .tc := ⟨.hbm, 275, rfl⟩
abbrev main_v121 : Ref sig .tc := ⟨.hbm, 276, rfl⟩
abbrev main_v122 : Ref sig .tc := ⟨.hbm, 277, rfl⟩
abbrev main_v123 : Ref sig .tc := ⟨.hbm, 278, rfl⟩
abbrev main_v124 : Ref sig .tc := ⟨.hbm, 279, rfl⟩
abbrev main_v125 : Ref sig .tc := ⟨.hbm, 280, rfl⟩
abbrev main_v126 : Ref sig .tc := ⟨.hbm, 281, rfl⟩
abbrev main_v127 : Ref sig .tc := ⟨.hbm, 282, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg2_0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_stg6_1 : Ref sig .tc := ⟨.vmem, 32, rfl⟩
abbrev cc5_stg0_0 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg6_0 : Ref sig .tc := ⟨.vmem, 39, rfl⟩
abbrev cc6_stg0_0 : Ref sig .tc := ⟨.vmem, 40, rfl⟩
abbrev cc6_stg1_0 : Ref sig .tc := ⟨.vmem, 41, rfl⟩
abbrev cc6_stg2_0 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg4_0 : Ref sig .tc := ⟨.vmem, 49, rfl⟩
abbrev cc7_stg5_0 : Ref sig .tc := ⟨.vmem, 50, rfl⟩
abbrev cc7_stg6_0 : Ref sig .tc := ⟨.vmem, 51, rfl⟩
abbrev cc7_stg6_1 : Ref sig .tc := ⟨.vmem, 52, rfl⟩
abbrev cc8_stg0_0 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg5_0 : Ref sig .tc := ⟨.vmem, 58, rfl⟩
abbrev cc8_stg6_0 : Ref sig .tc := ⟨.vmem, 59, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc3_sem0_0 : DmaSem sig := 20
abbrev cc3_sem1_0 : DmaSem sig := 21
abbrev cc3_sem2_0 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem6_1 : DmaSem sig := 32
abbrev cc5_sem0_0 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem6_0 : DmaSem sig := 39
abbrev cc6_sem0_0 : DmaSem sig := 40
abbrev cc6_sem1_0 : DmaSem sig := 41
abbrev cc6_sem2_0 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem6_0 : DmaSem sig := 51
abbrev cc7_sem6_1 : DmaSem sig := 52
abbrev cc8_sem0_0 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem6_0 : DmaSem sig := 59

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S10000x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev grid3 : Pipeline.Grid := .none

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S10000x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S50x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := .none

abbrev stage5_0 : Fin 1 → Memref sig .tc .vmem S10000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S10000x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S10000x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev grid6 : Pipeline.Grid := .none

abbrev stage6_0 : Fin 1 → Memref sig .tc .vmem S10000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S10000x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev grid7 : Pipeline.Grid := ⟨1, ![64], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S50x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := .none

abbrev stage8_0 : Fin 1 → Memref sig .tc .vmem S10000x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S10000x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))

abbrev stage8_6 : Fin 1 → Memref sig .tc .vmem S10000x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
-- ==== KernelIdeal.lean ====
variable {F : FTy → Type} [FloatOps F] [Named F]
def κ : String → Option EReal := fun
  | "coeff" => some ((-2401 / 50 : ℝ) : EReal)
  | "log2" => some ((Real.log 2 : ℝ) : EReal)
  | "step" => some ((5 / 49 : ℝ) : EReal)
  | _ => none
-- ==== ReferenceIdeal.lean ====
abbrev S10000 : Shape := ⟨1, ![10000]⟩
abbrev S10000x3 : Shape := ⟨2, ![10000, 3]⟩
abbrev S2x320000 : Shape := ⟨2, ![2, 320000]⟩
abbrev S100x128 : Shape := ⟨2, ![100, 128]⟩
abbrev S3x128x128 : Shape := ⟨3, ![3, 128, 128]⟩
abbrev S3x128x50 : Shape := ⟨3, ![3, 128, 50]⟩
abbrev S3x128 : Shape := ⟨2, ![3, 128]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10000x128 : Shape := ⟨2, ![10000, 128]⟩
abbrev S1x320000 : Shape := ⟨2, ![1, 320000]⟩
abbrev S320000 : Shape := ⟨1, ![320000]⟩
abbrev S320000x1 : Shape := ⟨2, ![320000, 1]⟩
abbrev S320000x3 : Shape := ⟨2, ![320000, 3]⟩
abbrev S49 : Shape := ⟨1, ![49]⟩
abbrev S50 : Shape := ⟨1, ![50]⟩
abbrev S1x50 : Shape := ⟨2, ![1, 50]⟩
abbrev S320000x50 : Shape := ⟨2, ![320000, 50]⟩
abbrev S1x128x128 : Shape := ⟨3, ![1, 128, 128]⟩
abbrev S128x128 : Shape := ⟨2, ![128, 128]⟩
abbrev S1x128x50 : Shape := ⟨3, ![1, 128, 50]⟩
abbrev S128x50 : Shape := ⟨2, ![128, 50]⟩
abbrev S50x128 : Shape := ⟨2, ![50, 128]⟩
abbrev S320000x128 : Shape := ⟨2, ![320000, 128]⟩
abbrev S1x128 : Shape := ⟨2, ![1, 128]⟩
abbrev S128 : Shape := ⟨1, ![128]⟩

abbrev nBuf : Space → Nat
  | .hbm => 506
  | .vmem => 0
  | .smem => 0
  | _ => 0

abbrev hbmTy0_0 (i : Nat) : BufTy := match i % 128 with
  | 0 => ⟨S10000, .i32⟩
  | 1 => ⟨S10000x3, .f32⟩
  | 2 => ⟨S2x320000, .i32⟩
  | 3 => ⟨S100x128, .f32⟩
  | 4 => ⟨S3x128x128, .f32⟩
  | 5 => ⟨S3x128x50, .f32⟩
  | 6 => ⟨S3x128, .f32⟩
  | 7 => ⟨S3x128x128, .f32⟩
  | 8 => ⟨S3x128, .f32⟩
  | 9 => ⟨S3x128x128, .f32⟩
  | 10 => ⟨S3x128, .f32⟩
  | 11 => ⟨S3x128x128, .f32⟩
  | 12 => ⟨S3x128, .f32⟩
  | 13 => ⟨S_, .i32⟩
  | 14 => ⟨S10000, .i32⟩
  | 15 => ⟨S10000, .i1⟩
  | 16 => ⟨S_, .i32⟩
  | 17 => ⟨S10000, .i32⟩
  | 18 => ⟨S10000, .i32⟩
  | 19 => ⟨S10000, .i32⟩
  | 20 => ⟨S10000x1, .i32⟩
  | 21 => ⟨S1, .i32⟩
  | 22 => ⟨S_, .i32⟩
  | 23 => ⟨S10000x1, .i32⟩
  | 24 => ⟨S10000x1, .i1⟩
  | 25 => ⟨S1x1, .i32⟩
  | 26 => ⟨S10000x1, .i32⟩
  | 27 => ⟨S10000x1, .i1⟩
  | 28 => ⟨S10000x1, .i1⟩
  | 29 => ⟨S_, .i1⟩
  | 30 => ⟨S10000, .i1⟩
  | 31 => ⟨S10000x128, .f32⟩
  | 32 => ⟨S10000x128, .i1⟩
  | 33 => ⟨S_, .f32⟩
  | 34 => ⟨S10000x128, .f32⟩
  | 35 => ⟨S10000x128, .f32⟩
  | 36 => ⟨S1x320000, .i32⟩
  | 37 => ⟨S320000, .i32⟩
  | 38 => ⟨S1x320000, .i32⟩
  | 39 => ⟨S320000, .i32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S1, .i32⟩
  | 49 => ⟨S_, .i32⟩
  | 50 => ⟨S320000x1, .i32⟩
  | 51 => ⟨S320000x1, .i1⟩
  | 52 => ⟨S1x1, .i32⟩
  | 53 => ⟨S320000x1, .i32⟩
  | 54 => ⟨S320000x1, .i1⟩
  | 55 => ⟨S320000x1, .i1⟩
  | 56 => ⟨S_, .i1⟩
  | 57 => ⟨S320000, .i1⟩
  | 58 => ⟨S320000x3, .f32⟩
  | 59 => ⟨S320000x3, .i1⟩
  | 60 => ⟨S_, .f32⟩
  | 61 => ⟨S320000x3, .f32⟩
  | 62 => ⟨S320000x3, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S1, .i32⟩
  | 72 => ⟨S_, .i32⟩
  | 73 => ⟨S320000x1, .i32⟩
  | 74 => ⟨S320000x1, .i1⟩
  | 75 => ⟨S1x1, .i32⟩
  | 76 => ⟨S320000x1, .i32⟩
  | 77 => ⟨S320000x1, .i1⟩
  | 78 => ⟨S320000x1, .i1⟩
  | 79 => ⟨S_, .i1⟩
  | 80 => ⟨S320000, .i1⟩
  | 81 => ⟨S320000x3, .f32⟩
  | 82 => ⟨S320000x3, .i1⟩
  | 83 => ⟨S_, .f32⟩
  | 84 => ⟨S320000x3, .f32⟩
  | 85 => ⟨S320000x3, .f32⟩
  | 86 => ⟨S320000x3, .f32⟩
  | 87 => ⟨S320000x3, .f32⟩
  | 88 => ⟨S_, .f32⟩
  | 89 => ⟨S320000, .f32⟩
  | 90 => ⟨S_, .f32⟩
  | 91 => ⟨S320000, .f32⟩
  | 92 => ⟨S320000, .f32⟩
  | 93 => ⟨S320000, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S49, .f32⟩
  | 102 => ⟨S_, .f32⟩
  | 103 => ⟨S49, .f32⟩
  | 104 => ⟨S49, .f32⟩
  | 105 => ⟨S1, .f32⟩
  | 106 => ⟨S_, .f32⟩
  | 107 => ⟨S49, .f32⟩
  | 108 => ⟨S49, .f32⟩
  | 109 => ⟨S49, .f32⟩
  | 110 => ⟨S49, .f32⟩
  | 111 => ⟨S1, .f32⟩
  | 112 => ⟨S49, .f32⟩
  | 113 => ⟨S49, .f32⟩
  | 114 => ⟨S49, .f32⟩
  | 115 => ⟨S1, .f32⟩
  | 116 => ⟨S50, .f32⟩
  | 117 => ⟨S1, .f32⟩
  | 118 => ⟨S_, .f32⟩
  | 119 => ⟨S1, .f32⟩
  | 120 => ⟨S_, .f32⟩
  | 121 => ⟨S_, .f32⟩
  | 122 => ⟨S_, .f32⟩
  | 123 => ⟨S_, .f32⟩
  | 124 => ⟨S_, .f32⟩
  | 125 => ⟨S320000x1, .f32⟩
  | 126 => ⟨S1x50, .f32⟩
  | 127 => ⟨S320000x50, .f32⟩
  | _ => ⟨S10000, .i32⟩

abbrev hbmTy0_1 (i : Nat) : BufTy := match i % 128 with
  | 0 => ⟨S320000x50, .f32⟩
  | 1 => ⟨S320000x50, .f32⟩
  | 2 => ⟨S320000x50, .f32⟩
  | 3 => ⟨S320000x50, .f32⟩
  | 4 => ⟨S320000x50, .f32⟩
  | 5 => ⟨S320000x50, .f32⟩
  | 6 => ⟨S_, .f32⟩
  | 7 => ⟨S320000, .f32⟩
  | 8 => ⟨S320000, .f32⟩
  | 9 => ⟨S_, .f32⟩
  | 10 => ⟨S320000, .f32⟩
  | 11 => ⟨S320000, .f32⟩
  | 12 => ⟨S320000, .f32⟩
  | 13 => ⟨S_, .f32⟩
  | 14 => ⟨S320000, .f32⟩
  | 15 => ⟨S320000, .f32⟩
  | 16 => ⟨S_, .f32⟩
  | 17 => ⟨S320000, .f32⟩
  | 18 => ⟨S320000, .f32⟩
  | 19 => ⟨S_, .f32⟩
  | 20 => ⟨S320000, .f32⟩
  | 21 => ⟨S320000, .i1⟩
  | 22 => ⟨S320000, .f32⟩
  | 23 => ⟨S320000, .f32⟩
  | 24 => ⟨S1x128x128, .f32⟩
  | 25 => ⟨S128x128, .f32⟩
  | 26 => ⟨S128x128, .f32⟩
  | 27 => ⟨S10000x128, .f32⟩
  | 28 => ⟨S1x128x50, .f32⟩
  | 29 => ⟨S128x50, .f32⟩
  | 30 => ⟨S50x128, .f32⟩
  | 31 => ⟨S320000x128, .f32⟩
  | 32 => ⟨S1x128, .f32⟩
  | 33 => ⟨S128, .f32⟩
  | 34 => ⟨S1x128, .f32⟩
  | 35 => ⟨S320000x128, .f32⟩
  | 36 => ⟨S320000x128, .f32⟩
  | 37 => ⟨S_, .f32⟩
  | 38 => ⟨S320000x128, .f32⟩
  | 39 => ⟨S320000x128, .f32⟩
  | 40 => ⟨S320000x128, .f32⟩
  | 41 => ⟨S320000x128, .f32⟩
  | 42 => ⟨S320000x128, .i1⟩
  | 43 => ⟨S320000x128, .f32⟩
  | 44 => ⟨S320000x128, .f32⟩
  | 45 => ⟨S320000x128, .f32⟩
  | 46 => ⟨S320000x128, .f32⟩
  | 47 => ⟨S320000x128, .f32⟩
  | 48 => ⟨S320000x128, .f32⟩
  | 49 => ⟨S320000x128, .f32⟩
  | 50 => ⟨S320000x128, .f32⟩
  | 51 => ⟨S_, .f32⟩
  | 52 => ⟨S_, .f32⟩
  | 53 => ⟨S_, .f32⟩
  | 54 => ⟨S320000x128, .f32⟩
  | 55 => ⟨S320000x128, .f32⟩
  | 56 => ⟨S1x128x128, .f32⟩
  | 57 => ⟨S128x128, .f32⟩
  | 58 => ⟨S128x128, .f32⟩
  | 59 => ⟨S320000x128, .f32⟩
  | 60 => ⟨S1x128, .f32⟩
  | 61 => ⟨S128, .f32⟩
  | 62 => ⟨S1x128, .f32⟩
  | 63 => ⟨S320000x128, .f32⟩
  | 64 => ⟨S320000x128, .f32⟩
  | 65 => ⟨S_, .f32⟩
  | 66 => ⟨S320000x128, .f32⟩
  | 67 => ⟨S320000x128, .f32⟩
  | 68 => ⟨S320000x128, .f32⟩
  | 69 => ⟨S320000x128, .f32⟩
  | 70 => ⟨S320000x128, .i1⟩
  | 71 => ⟨S320000x128, .f32⟩
  | 72 => ⟨S320000x128, .f32⟩
  | 73 => ⟨S320000x128, .f32⟩
  | 74 => ⟨S320000x128, .f32⟩
  | 75 => ⟨S320000x128, .f32⟩
  | 76 => ⟨S320000x128, .f32⟩
  | 77 => ⟨S320000x128, .f32⟩
  | 78 => ⟨S320000x128, .f32⟩
  | 79 => ⟨S_, .f32⟩
  | 80 => ⟨S_, .f32⟩
  | 81 => ⟨S_, .f32⟩
  | 82 => ⟨S320000x128, .f32⟩
  | 83 => ⟨S320000x128, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S1, .i32⟩
  | 93 => ⟨S_, .i32⟩
  | 94 => ⟨S320000x1, .i32⟩
  | 95 => ⟨S320000x1, .i1⟩
  | 96 => ⟨S1x1, .i32⟩
  | 97 => ⟨S320000x1, .i32⟩
  | 98 => ⟨S320000x1, .i1⟩
  | 99 => ⟨S320000x1, .i1⟩
  | 100 => ⟨S_, .i1⟩
  | 101 => ⟨S320000, .i1⟩
  | 102 => ⟨S320000x128, .f32⟩
  | 103 => ⟨S320000x128, .i1⟩
  | 104 => ⟨S_, .f32⟩
  | 105 => ⟨S320000x128, .f32⟩
  | 106 => ⟨S320000x128, .f32⟩
  | 107 => ⟨S320000x128, .f32⟩
  | 108 => ⟨S320000x1, .f32⟩
  | 109 => ⟨S320000x128, .f32⟩
  | 110 => ⟨S320000x128, .f32⟩
  | 111 => ⟨S_, .f32⟩
  | 112 => ⟨S10000x128, .f32⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S10000x128, .f32⟩
  | 122 => ⟨S1x128x128, .f32⟩
  | 123 => ⟨S128x128, .f32⟩
  | 124 => ⟨S128x128, .f32⟩
  | 125 => ⟨S10000x128, .f32⟩
  | 126 => ⟨S1x128, .f32⟩
  | 127 => ⟨S128, .f32⟩
  | _ => ⟨S10000, .i32⟩

abbrev hbmTy0_2 (i : Nat) : BufTy := match i % 128 with
  | 0 => ⟨S1x128, .f32⟩
  | 1 => ⟨S10000x128, .f32⟩
  | 2 => ⟨S10000x128, .f32⟩
  | 3 => ⟨S10000x128, .f32⟩
  | 4 => ⟨S1x128x128, .f32⟩
  | 5 => ⟨S128x128, .f32⟩
  | 6 => ⟨S128x128, .f32⟩
  | 7 => ⟨S10000x128, .f32⟩
  | 8 => ⟨S1x128, .f32⟩
  | 9 => ⟨S128, .f32⟩
  | 10 => ⟨S1x128, .f32⟩
  | 11 => ⟨S10000x128, .f32⟩
  | 12 => ⟨S10000x128, .f32⟩
  | 13 => ⟨S10000x128, .f32⟩
  | 14 => ⟨S1x128x128, .f32⟩
  | 15 => ⟨S128x128, .f32⟩
  | 16 => ⟨S128x128, .f32⟩
  | 17 => ⟨S10000x128, .f32⟩
  | 18 => ⟨S1x128x50, .f32⟩
  | 19 => ⟨S128x50, .f32⟩
  | 20 => ⟨S50x128, .f32⟩
  | 21 => ⟨S320000x128, .f32⟩
  | 22 => ⟨S1x128, .f32⟩
  | 23 => ⟨S128, .f32⟩
  | 24 => ⟨S1x128, .f32⟩
  | 25 => ⟨S320000x128, .f32⟩
  | 26 => ⟨S320000x128, .f32⟩
  | 27 => ⟨S_, .f32⟩
  | 28 => ⟨S320000x128, .f32⟩
  | 29 => ⟨S320000x128, .f32⟩
  | 30 => ⟨S320000x128, .f32⟩
  | 31 => ⟨S320000x128, .f32⟩
  | 32 => ⟨S320000x128, .i1⟩
  | 33 => ⟨S320000x128, .f32⟩
  | 34 => ⟨S320000x128, .f32⟩
  | 35 => ⟨S320000x128, .f32⟩
  | 36 => ⟨S320000x128, .f32⟩
  | 37 => ⟨S320000x128, .f32⟩
  | 38 => ⟨S320000x128, .f32⟩
  | 39 => ⟨S320000x128, .f32⟩
  | 40 => ⟨S320000x128, .f32⟩
  | 41 => ⟨S_, .f32⟩
  | 42 => ⟨S_, .f32⟩
  | 43 => ⟨S_, .f32⟩
  | 44 => ⟨S320000x128, .f32⟩
  | 45 => ⟨S320000x128, .f32⟩
  | 46 => ⟨S1x128x128, .f32⟩
  | 47 => ⟨S128x128, .f32⟩
  | 48 => ⟨S128x128, .f32⟩
  | 49 => ⟨S320000x128, .f32⟩
  | 50 => ⟨S1x128, .f32⟩
  | 51 => ⟨S128, .f32⟩
  | 52 => ⟨S1x128, .f32⟩
  | 53 => ⟨S320000x128, .f32⟩
  | 54 => ⟨S320000x128, .f32⟩
  | 55 => ⟨S_, .f32⟩
  | 56 => ⟨S320000x128, .f32⟩
  | 57 => ⟨S320000x128, .f32⟩
  | 58 => ⟨S320000x128, .f32⟩
  | 59 => ⟨S320000x128, .f32⟩
  | 60 => ⟨S320000x128, .i1⟩
  | 61 => ⟨S320000x128, .f32⟩
  | 62 => ⟨S320000x128, .f32⟩
  | 63 => ⟨S320000x128, .f32⟩
  | 64 => ⟨S320000x128, .f32⟩
  | 65 => ⟨S320000x128, .f32⟩
  | 66 => ⟨S320000x128, .f32⟩
  | 67 => ⟨S320000x128, .f32⟩
  | 68 => ⟨S320000x128, .f32⟩
  | 69 => ⟨S_, .f32⟩
  | 70 => ⟨S_, .f32⟩
  | 71 => ⟨S_, .f32⟩
  | 72 => ⟨S320000x128, .f32⟩
  | 73 => ⟨S320000x128, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S1, .i32⟩
  | 83 => ⟨S_, .i32⟩
  | 84 => ⟨S320000x1, .i32⟩
  | 85 => ⟨S320000x1, .i1⟩
  | 86 => ⟨S1x1, .i32⟩
  | 87 => ⟨S320000x1, .i32⟩
  | 88 => ⟨S320000x1, .i1⟩
  | 89 => ⟨S320000x1, .i1⟩
  | 90 => ⟨S_, .i1⟩
  | 91 => ⟨S320000, .i1⟩
  | 92 => ⟨S320000x128, .f32⟩
  | 93 => ⟨S320000x128, .i1⟩
  | 94 => ⟨S_, .f32⟩
  | 95 => ⟨S320000x128, .f32⟩
  | 96 => ⟨S320000x128, .f32⟩
  | 97 => ⟨S320000x128, .f32⟩
  | 98 => ⟨S320000x1, .f32⟩
  | 99 => ⟨S320000x128, .f32⟩
  | 100 => ⟨S320000x128, .f32⟩
  | 101 => ⟨S_, .f32⟩
  | 102 => ⟨S10000x128, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S10000x128, .f32⟩
  | 112 => ⟨S1x128x128, .f32⟩
  | 113 => ⟨S128x128, .f32⟩
  | 114 => ⟨S128x128, .f32⟩
  | 115 => ⟨S10000x128, .f32⟩
  | 116 => ⟨S1x128, .f32⟩
  | 117 => ⟨S128, .f32⟩
  | 118 => ⟨S1x128, .f32⟩
  | 119 => ⟨S10000x128, .f32⟩
  | 120 => ⟨S10000x128, .f32⟩
  | 121 => ⟨S10000x128, .f32⟩
  | 122 => ⟨S1x128x128, .f32⟩
  | 123 => ⟨S128x128, .f32⟩
  | 124 => ⟨S128x128, .f32⟩
  | 125 => ⟨S10000x128, .f32⟩
  | 126 => ⟨S1x128, .f32⟩
  | 127 => ⟨S128, .f32⟩
  | _ => ⟨S10000, .i32⟩

abbrev hbmTy0_3 (i : Nat) : BufTy := match i % 128 with
  | 0 => ⟨S1x128, .f32⟩
  | 1 => ⟨S10000x128, .f32⟩
  | 2 => ⟨S10000x128, .f32⟩
  | 3 => ⟨S10000x128, .f32⟩
  | 4 => ⟨S1x128x128, .f32⟩
  | 5 => ⟨S128x128, .f32⟩
  | 6 => ⟨S128x128, .f32⟩
  | 7 => ⟨S10000x128, .f32⟩
  | 8 => ⟨S1x128x50, .f32⟩
  | 9 => ⟨S128x50, .f32⟩
  | 10 => ⟨S50x128, .f32⟩
  | 11 => ⟨S320000x128, .f32⟩
  | 12 => ⟨S1x128, .f32⟩
  | 13 => ⟨S128, .f32⟩
  | 14 => ⟨S1x128, .f32⟩
  | 15 => ⟨S320000x128, .f32⟩
  | 16 => ⟨S320000x128, .f32⟩
  | 17 => ⟨S_, .f32⟩
  | 18 => ⟨S320000x128, .f32⟩
  | 19 => ⟨S320000x128, .f32⟩
  | 20 => ⟨S320000x128, .f32⟩
  | 21 => ⟨S320000x128, .f32⟩
  | 22 => ⟨S320000x128, .i1⟩
  | 23 => ⟨S320000x128, .f32⟩
  | 24 => ⟨S320000x128, .f32⟩
  | 25 => ⟨S320000x128, .f32⟩
  | 26 => ⟨S320000x128, .f32⟩
  | 27 => ⟨S320000x128, .f32⟩
  | 28 => ⟨S320000x128, .f32⟩
  | 29 => ⟨S320000x128, .f32⟩
  | 30 => ⟨S320000x128, .f32⟩
  | 31 => ⟨S_, .f32⟩
  | 32 => ⟨S_, .f32⟩
  | 33 => ⟨S_, .f32⟩
  | 34 => ⟨S320000x128, .f32⟩
  | 35 => ⟨S320000x128, .f32⟩
  | 36 => ⟨S1x128x128, .f32⟩
  | 37 => ⟨S128x128, .f32⟩
  | 38 => ⟨S128x128, .f32⟩
  | 39 => ⟨S320000x128, .f32⟩
  | 40 => ⟨S1x128, .f32⟩
  | 41 => ⟨S128, .f32⟩
  | 42 => ⟨S1x128, .f32⟩
  | 43 => ⟨S320000x128, .f32⟩
  | 44 => ⟨S320000x128, .f32⟩
  | 45 => ⟨S_, .f32⟩
  | 46 => ⟨S320000x128, .f32⟩
  | 47 => ⟨S320000x128, .f32⟩
  | 48 => ⟨S320000x128, .f32⟩
  | 49 => ⟨S320000x128, .f32⟩
  | 50 => ⟨S320000x128, .i1⟩
  | 51 => ⟨S320000x128, .f32⟩
  | 52 => ⟨S320000x128, .f32⟩
  | 53 => ⟨S320000x128, .f32⟩
  | 54 => ⟨S320000x128, .f32⟩
  | 55 => ⟨S320000x128, .f32⟩
  | 56 => ⟨S320000x128, .f32⟩
  | 57 => ⟨S320000x128, .f32⟩
  | 58 => ⟨S320000x128, .f32⟩
  | 59 => ⟨S_, .f32⟩
  | 60 => ⟨S_, .f32⟩
  | 61 => ⟨S_, .f32⟩
  | 62 => ⟨S320000x128, .f32⟩
  | 63 => ⟨S320000x128, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S1, .i32⟩
  | 73 => ⟨S_, .i32⟩
  | 74 => ⟨S320000x1, .i32⟩
  | 75 => ⟨S320000x1, .i1⟩
  | 76 => ⟨S1x1, .i32⟩
  | 77 => ⟨S320000x1, .i32⟩
  | 78 => ⟨S320000x1, .i1⟩
  | 79 => ⟨S320000x1, .i1⟩
  | 80 => ⟨S_, .i1⟩
  | 81 => ⟨S320000, .i1⟩
  | 82 => ⟨S320000x128, .f32⟩
  | 83 => ⟨S320000x128, .i1⟩
  | 84 => ⟨S_, .f32⟩
  | 85 => ⟨S320000x128, .f32⟩
  | 86 => ⟨S320000x128, .f32⟩
  | 87 => ⟨S320000x128, .f32⟩
  | 88 => ⟨S320000x1, .f32⟩
  | 89 => ⟨S320000x128, .f32⟩
  | 90 => ⟨S320000x128, .f32⟩
  | 91 => ⟨S_, .f32⟩
  | 92 => ⟨S10000x128, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S10000x128, .f32⟩
  | 102 => ⟨S1x128x128, .f32⟩
  | 103 => ⟨S128x128, .f32⟩
  | 104 => ⟨S128x128, .f32⟩
  | 105 => ⟨S10000x128, .f32⟩
  | 106 => ⟨S1x128, .f32⟩
  | 107 => ⟨S128, .f32⟩
  | 108 => ⟨S1x128, .f32⟩
  | 109 => ⟨S10000x128, .f32⟩
  | 110 => ⟨S10000x128, .f32⟩
  | 111 => ⟨S10000x128, .f32⟩
  | 112 => ⟨S1x128x128, .f32⟩
  | 113 => ⟨S128x128, .f32⟩
  | 114 => ⟨S128x128, .f32⟩
  | 115 => ⟨S10000x128, .f32⟩
  | 116 => ⟨S1x128, .f32⟩
  | 117 => ⟨S128, .f32⟩
  | 118 => ⟨S1x128, .f32⟩
  | 119 => ⟨S10000x128, .f32⟩
  | 120 => ⟨S10000x128, .f32⟩
  | 121 => ⟨S10000x128, .f32⟩
  | _ => ⟨S10000, .i32⟩

abbrev hbmTy (i : Nat) : BufTy := match i / 128 with
  | 0 => hbmTy0_0 i
  | 1 => hbmTy0_1 i
  | 2 => hbmTy0_2 i
  | 3 => hbmTy0_3 i
  | _ => ⟨S10000, .i32⟩

abbrev bufTy : (tb : Table) → Fin (tcTables nBuf tb) → BufTy
  | .hbm, ⟨i, _⟩ => hbmTy i
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v6 : Ref sig .tc := ⟨.hbm, 85, rfl⟩
abbrev main_v7 : Ref sig .tc := ⟨.hbm, 86, rfl⟩
abbrev main_v8 : Ref sig .tc := ⟨.hbm, 87, rfl⟩
abbrev main_cst : Ref sig .tc := ⟨.hbm, 88, rfl⟩
abbrev main_v9 : Ref sig .tc := ⟨.hbm, 89, rfl⟩
abbrev main_cst_0 : Ref sig .tc := ⟨.hbm, 90, rfl⟩
abbrev main_v10 : Ref sig .tc := ⟨.hbm, 91, rfl⟩
abbrev main_v11 : Ref sig .tc := ⟨.hbm, 92, rfl⟩
abbrev main_v12 : Ref sig .tc := ⟨.hbm, 93, rfl⟩
abbrev main_cst_1 : Ref sig .tc := ⟨.hbm, 94, rfl⟩
abbrev main_cst_2 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_cst : Ref sig .tc := ⟨.hbm, 99, rfl⟩
abbrev main_call3_v3 : Ref sig .tc := ⟨.hbm, 100, rfl⟩
abbrev main_call3_v4 : Ref sig .tc := ⟨.hbm, 101, rfl⟩
abbrev main_call3_cst_0 : Ref sig .tc := ⟨.hbm, 102, rfl⟩
abbrev main_call3_v5 : Ref sig .tc := ⟨.hbm, 103, rfl⟩
abbrev main_call3_v6 : Ref sig .tc := ⟨.hbm, 104, rfl⟩
abbrev main_call3_v7 : Ref sig .tc := ⟨.hbm, 105, rfl⟩
abbrev main_call3_cst_1 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_v15 : Ref sig .tc := ⟨.hbm, 114, rfl⟩
abbrev main_call3_v16 : Ref sig .tc := ⟨.hbm, 115, rfl⟩
abbrev main_v13 : Ref sig .tc := ⟨.hbm, 116, rfl⟩
abbrev main_v14 : Ref sig .tc := ⟨.hbm, 117, rfl⟩
abbrev main_v15 : Ref sig .tc := ⟨.hbm, 118, rfl⟩
abbrev main_v16 : Ref sig .tc := ⟨.hbm, 119, rfl⟩
abbrev main_v17 : Ref sig .tc := ⟨.hbm, 120, rfl⟩
abbrev main_v18 : Ref sig .tc := ⟨.hbm, 121, rfl⟩
abbrev main_v19 : Ref sig .tc := ⟨.hbm, 122, rfl⟩
abbrev main_cst_3 : Ref sig .tc := ⟨.hbm, 123, rfl⟩
abbrev main_v20 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_cst_4 : Ref sig .tc := ⟨.hbm, 134, rfl⟩
abbrev main_v30 : Ref sig .tc := ⟨.hbm, 135, rfl⟩
abbrev main_v31 : Ref sig .tc := ⟨.hbm, 136, rfl⟩
abbrev main_cst_5 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_cst_6 : Ref sig .tc := ⟨.hbm, 141, rfl⟩
abbrev main_v35 : Ref sig .tc := ⟨.hbm, 142, rfl⟩
abbrev main_v36 : Ref sig .tc := ⟨.hbm, 143, rfl⟩
abbrev main_cst_7 : Ref sig .tc := ⟨.hbm, 144, rfl⟩
abbrev main_v37 : Ref sig .tc := ⟨.hbm, 145, rfl⟩
abbrev main_v38 : Ref sig .tc := ⟨.hbm, 146, rfl⟩
abbrev main_cst_8 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_call4_cst : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_v6 : Ref sig .tc := ⟨.hbm, 172, rfl⟩
abbrev main_call4_v7 : Ref sig .tc := ⟨.hbm, 173, rfl⟩
abbrev main_call4_v8 : Ref sig .tc := ⟨.hbm, 174, rfl⟩
abbrev main_call4_v9 : Ref sig .tc := ⟨.hbm, 175, rfl⟩
abbrev main_call4_v10 : Ref sig .tc := ⟨.hbm, 176, rfl⟩
abbrev main_call4_v11 : Ref sig .tc := ⟨.hbm, 177, rfl⟩
abbrev main_v56 : Ref sig .tc := ⟨.hbm, 178, rfl⟩
abbrev main_cst_9 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_v63 : Ref sig .tc := ⟨.hbm, 186, rfl⟩
abbrev main_v64 : Ref sig .tc := ⟨.hbm, 187, rfl⟩
abbrev main_v65 : Ref sig .tc := ⟨.hbm, 188, rfl⟩
abbrev main_v66 : Ref sig .tc := ⟨.hbm, 189, rfl⟩
abbrev main_v67 : Ref sig .tc := ⟨.hbm, 190, rfl⟩
abbrev main_v68 : Ref sig .tc := ⟨.hbm, 191, rfl⟩
abbrev main_v69 : Ref sig .tc := ⟨.hbm, 192, rfl⟩
abbrev main_call5_cst : Ref sig .tc := ⟨.hbm, 193, rfl⟩
abbrev main_call5_v0 : Ref sig .tc := ⟨.hbm, 194, rfl⟩
abbrev main_call5_v1 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_v6 : Ref sig .tc := ⟨.hbm, 200, rfl⟩
abbrev main_call5_v7 : Ref sig .tc := ⟨.hbm, 201, rfl⟩
abbrev main_call5_v8 : Ref sig .tc := ⟨.hbm, 202, rfl⟩
abbrev main_call5_v9 : Ref sig .tc := ⟨.hbm, 203, rfl⟩
abbrev main_call5_v10 : Ref sig .tc := ⟨.hbm, 204, rfl⟩
abbrev main_call5_v11 : Ref sig .tc := ⟨.hbm, 205, rfl⟩
abbrev main_v70 : Ref sig .tc := ⟨.hbm, 206, rfl⟩
abbrev main_cst_10 : Ref sig .tc := ⟨.hbm, 207, rfl⟩
abbrev main_v71 : Ref sig .tc := ⟨.hbm, 208, rfl⟩
abbrev main_v72 : Ref sig .tc := ⟨.hbm, 209, rfl⟩
abbrev main_v73 : Ref sig .tc := ⟨.hbm, 210, rfl⟩
abbrev main_v74 : Ref sig .tc := ⟨.hbm, 211, rfl⟩
abbrev main_call6_c : Ref sig .tc := ⟨.hbm, 212, rfl⟩
abbrev main_call6_v0 : Ref sig .tc := ⟨.hbm, 213, rfl⟩
abbrev main_call6_v1 : Ref sig .tc := ⟨.hbm, 214, rfl⟩
abbrev main_call6_c_0 : Ref sig .tc := ⟨.hbm, 215, rfl⟩
abbrev main_call6_v2 : Ref sig .tc := ⟨.hbm, 216, rfl⟩
abbrev main_call6_v3 : Ref sig .tc := ⟨.hbm, 217, rfl⟩
abbrev main_call6_v4 : Ref sig .tc := ⟨.hbm, 218, rfl⟩
abbrev main_call6_v5 : Ref sig .tc := ⟨.hbm, 219, rfl⟩
abbrev main_call6_c_1 : Ref sig .tc := ⟨.hbm, 220, rfl⟩
abbrev main_call6_c_2 : Ref sig .tc := ⟨.hbm, 221, rfl⟩
abbrev main_call6_v6 : Ref sig .tc := ⟨.hbm, 222, rfl⟩
abbrev main_call6_v7 : Ref sig .tc := ⟨.hbm, 223, rfl⟩
abbrev main_call6_v8 : Ref sig .tc := ⟨.hbm, 224, rfl⟩
abbrev main_call6_v9 : Ref sig .tc := ⟨.hbm, 225, rfl⟩
abbrev main_call6_v10 : Ref sig .tc := ⟨.hbm, 226, rfl⟩
abbrev main_call6_v11 : Ref sig .tc := ⟨.hbm, 227, rfl⟩
abbrev main_call6_c_3 : Ref sig .tc := ⟨.hbm, 228, rfl⟩
abbrev main_call6_v12 : Ref sig .tc := ⟨.hbm, 229, rfl⟩
abbrev main_call6_v13 : Ref sig .tc := ⟨.hbm, 230, rfl⟩
abbrev main_call6_v14 : Ref sig .tc := ⟨.hbm, 231, rfl⟩
abbrev main_call6_cst : Ref sig .tc := ⟨.hbm, 232, rfl⟩
abbrev main_call6_v15 : Ref sig .tc := ⟨.hbm, 233, rfl⟩
abbrev main_v75 : Ref sig .tc := ⟨.hbm, 234, rfl⟩
abbrev main_v76 : Ref sig .tc := ⟨.hbm, 235, rfl⟩
abbrev main_v77 : Ref sig .tc := ⟨.hbm, 236, rfl⟩
abbrev main_v78 : Ref sig .tc := ⟨.hbm, 237, rfl⟩
abbrev main_v79 : Ref sig .tc := ⟨.hbm, 238, rfl⟩
abbrev main_cst_11 : Ref sig .tc := ⟨.hbm, 239, rfl⟩
abbrev main_v80 : Ref sig .tc := ⟨.hbm, 240, rfl⟩
abbrev main_c : Ref sig .tc := ⟨.hbm, 241, rfl⟩
abbrev main_v81 : Ref sig .tc := ⟨.hbm, 242, rfl⟩
abbrev main_v82 : Ref sig .tc := ⟨.hbm, 243, rfl⟩
abbrev main_c_12 : Ref sig .tc := ⟨.hbm, 244, rfl⟩
abbrev main_v83 : Ref sig .tc := ⟨.hbm, 245, rfl⟩
abbrev main_v84 : Ref sig .tc := ⟨.hbm, 246, rfl⟩
abbrev main_v85 : Ref sig .tc := ⟨.hbm, 247, rfl⟩
abbrev main_v86 : Ref sig .tc := ⟨.hbm, 248, rfl⟩
abbrev main_v87 : Ref sig .tc := ⟨.hbm, 249, rfl⟩
abbrev main_v88 : Ref sig .tc := ⟨.hbm, 250, rfl⟩
abbrev main_v89 : Ref sig .tc := ⟨.hbm, 251, rfl⟩
abbrev main_v90 : Ref sig .tc := ⟨.hbm, 252, rfl⟩
abbrev main_v91 : Ref sig .tc := ⟨.hbm, 253, rfl⟩
abbrev main_v92 : Ref sig .tc := ⟨.hbm, 254, rfl⟩
abbrev main_v93 : Ref sig .tc := ⟨.hbm, 255, rfl⟩
abbrev main_v94 : Ref sig .tc := ⟨.hbm, 256, rfl⟩
abbrev main_v95 : Ref sig .tc := ⟨.hbm, 257, rfl⟩
abbrev main_v96 : Ref sig .tc := ⟨.hbm, 258, rfl⟩
abbrev main_v97 : Ref sig .tc := ⟨.hbm, 259, rfl⟩
abbrev main_v98 : Ref sig .tc := ⟨.hbm, 260, rfl⟩
abbrev main_v99 : Ref sig .tc := ⟨.hbm, 261, rfl⟩
abbrev main_v100 : Ref sig .tc := ⟨.hbm, 262, rfl⟩
abbrev main_v101 : Ref sig .tc := ⟨.hbm, 263, rfl⟩
abbrev main_v102 : Ref sig .tc := ⟨.hbm, 264, rfl⟩
abbrev main_v103 : Ref sig .tc := ⟨.hbm, 265, rfl⟩
abbrev main_v104 : Ref sig .tc := ⟨.hbm, 266, rfl⟩
abbrev main_v105 : Ref sig .tc := ⟨.hbm, 267, rfl⟩
abbrev main_v106 : Ref sig .tc := ⟨.hbm, 268, rfl⟩
abbrev main_v107 : Ref sig .tc := ⟨.hbm, 269, rfl⟩
abbrev main_v108 : Ref sig .tc := ⟨.hbm, 270, rfl⟩
abbrev main_v109 : Ref sig .tc := ⟨.hbm, 271, rfl⟩
abbrev main_v110 : Ref sig .tc := ⟨.hbm, 272, rfl⟩
abbrev main_v111 : Ref sig .tc := ⟨.hbm, 273, rfl⟩
abbrev main_v112 : Ref sig .tc := ⟨.hbm, 274, rfl⟩
abbrev main_v113 : Ref sig .tc := ⟨.hbm, 275, rfl⟩
abbrev main_v114 : Ref sig .tc := ⟨.hbm, 276, rfl⟩
abbrev main_v115 : Ref sig .tc := ⟨.hbm, 277, rfl⟩
abbrev main_v116 : Ref sig .tc := ⟨.hbm, 278, rfl⟩
abbrev main_v117 : Ref sig .tc := ⟨.hbm, 279, rfl⟩
abbrev main_v118 : Ref sig .tc := ⟨.hbm, 280, rfl⟩
abbrev main_v119 : Ref sig .tc := ⟨.hbm, 281, rfl⟩
abbrev main_v120 : Ref sig .tc := ⟨.hbm, 282, rfl⟩
abbrev main_call7_cst : Ref sig .tc := ⟨.hbm, 283, rfl⟩
abbrev main_call7_v0 : Ref sig .tc := ⟨.hbm, 284, rfl⟩
abbrev main_call7_v1 : Ref sig .tc := ⟨.hbm, 285, rfl⟩
abbrev main_call7_v2 : Ref sig .tc := ⟨.hbm, 286, rfl⟩
abbrev main_call7_v3 : Ref sig .tc := ⟨.hbm, 287, rfl⟩
abbrev main_call7_v4 : Ref sig .tc := ⟨.hbm, 288, rfl⟩
abbrev main_call7_v5 : Ref sig .tc := ⟨.hbm, 289, rfl⟩
abbrev main_call7_v6 : Ref sig .tc := ⟨.hbm, 290, rfl⟩
abbrev main_call7_v7 : Ref sig .tc := ⟨.hbm, 291, rfl⟩
abbrev main_call7_v8 : Ref sig .tc := ⟨.hbm, 292, rfl⟩
abbrev main_call7_v9 : Ref sig .tc := ⟨.hbm, 293, rfl⟩
abbrev main_call7_v10 : Ref sig .tc := ⟨.hbm, 294, rfl⟩
abbrev main_call7_v11 : Ref sig .tc := ⟨.hbm, 295, rfl⟩
abbrev main_v121 : Ref sig .tc := ⟨.hbm, 296, rfl⟩
abbrev main_cst_13 : Ref sig .tc := ⟨.hbm, 297, rfl⟩
abbrev main_v122 : Ref sig .tc := ⟨.hbm, 298, rfl⟩
abbrev main_v123 : Ref sig .tc := ⟨.hbm, 299, rfl⟩
abbrev main_v124 : Ref sig .tc := ⟨.hbm, 300, rfl⟩
abbrev main_v125 : Ref sig .tc := ⟨.hbm, 301, rfl⟩
abbrev main_v126 : Ref sig .tc := ⟨.hbm, 302, rfl⟩
abbrev main_v127 : Ref sig .tc := ⟨.hbm, 303, rfl⟩
abbrev main_v128 : Ref sig .tc := ⟨.hbm, 304, rfl⟩
abbrev main_v129 : Ref sig .tc := ⟨.hbm, 305, rfl⟩
abbrev main_v130 : Ref sig .tc := ⟨.hbm, 306, rfl⟩
abbrev main_v131 : Ref sig .tc := ⟨.hbm, 307, rfl⟩
abbrev main_v132 : Ref sig .tc := ⟨.hbm, 308, rfl⟩
abbrev main_v133 : Ref sig .tc := ⟨.hbm, 309, rfl⟩
abbrev main_v134 : Ref sig .tc := ⟨.hbm, 310, rfl⟩
abbrev main_call8_cst : Ref sig .tc := ⟨.hbm, 311, rfl⟩
abbrev main_call8_v0 : Ref sig .tc := ⟨.hbm, 312, rfl⟩
abbrev main_call8_v1 : Ref sig .tc := ⟨.hbm, 313, rfl⟩
abbrev main_call8_v2 : Ref sig .tc := ⟨.hbm, 314, rfl⟩
abbrev main_call8_v3 : Ref sig .tc := ⟨.hbm, 315, rfl⟩
abbrev main_call8_v4 : Ref sig .tc := ⟨.hbm, 316, rfl⟩
abbrev main_call8_v5 : Ref sig .tc := ⟨.hbm, 317, rfl⟩
abbrev main_call8_v6 : Ref sig .tc := ⟨.hbm, 318, rfl⟩
abbrev main_call8_v7 : Ref sig .tc := ⟨.hbm, 319, rfl⟩
abbrev main_call8_v8 : Ref sig .tc := ⟨.hbm, 320, rfl⟩
abbrev main_call8_v9 : Ref sig .tc := ⟨.hbm, 321, rfl⟩
abbrev main_call8_v10 : Ref sig .tc := ⟨.hbm, 322, rfl⟩
abbrev main_call8_v11 : Ref sig .tc := ⟨.hbm, 323, rfl⟩
abbrev main_v135 : Ref sig .tc := ⟨.hbm, 324, rfl⟩
abbrev main_cst_14 : Ref sig .tc := ⟨.hbm, 325, rfl⟩
abbrev main_v136 : Ref sig .tc := ⟨.hbm, 326, rfl⟩
abbrev main_v137 : Ref sig .tc := ⟨.hbm, 327, rfl⟩
abbrev main_v138 : Ref sig .tc := ⟨.hbm, 328, rfl⟩
abbrev main_v139 : Ref sig .tc := ⟨.hbm, 329, rfl⟩
abbrev main_call9_c : Ref sig .tc := ⟨.hbm, 330, rfl⟩
abbrev main_call9_v0 : Ref sig .tc := ⟨.hbm, 331, rfl⟩
abbrev main_call9_v1 : Ref sig .tc := ⟨.hbm, 332, rfl⟩
abbrev main_call9_c_0 : Ref sig .tc := ⟨.hbm, 333, rfl⟩
abbrev main_call9_v2 : Ref sig .tc := ⟨.hbm, 334, rfl⟩
abbrev main_call9_v3 : Ref sig .tc := ⟨.hbm, 335, rfl⟩
abbrev main_call9_v4 : Ref sig .tc := ⟨.hbm, 336, rfl⟩
abbrev main_call9_v5 : Ref sig .tc := ⟨.hbm, 337, rfl⟩
abbrev main_call9_c_1 : Ref sig .tc := ⟨.hbm, 338, rfl⟩
abbrev main_call9_c_2 : Ref sig .tc := ⟨.hbm, 339, rfl⟩
abbrev main_call9_v6 : Ref sig .tc := ⟨.hbm, 340, rfl⟩
abbrev main_call9_v7 : Ref sig .tc := ⟨.hbm, 341, rfl⟩
abbrev main_call9_v8 : Ref sig .tc := ⟨.hbm, 342, rfl⟩
abbrev main_call9_v9 : Ref sig .tc := ⟨.hbm, 343, rfl⟩
abbrev main_call9_v10 : Ref sig .tc := ⟨.hbm, 344, rfl⟩
abbrev main_call9_v11 : Ref sig .tc := ⟨.hbm, 345, rfl⟩
abbrev main_call9_c_3 : Ref sig .tc := ⟨.hbm, 346, rfl⟩
abbrev main_call9_v12 : Ref sig .tc := ⟨.hbm, 347, rfl⟩
abbrev main_call9_v13 : Ref sig .tc := ⟨.hbm, 348, rfl⟩
abbrev main_call9_v14 : Ref sig .tc := ⟨.hbm, 349, rfl⟩
abbrev main_call9_cst : Ref sig .tc := ⟨.hbm, 350, rfl⟩
abbrev main_call9_v15 : Ref sig .tc := ⟨.hbm, 351, rfl⟩
abbrev main_v140 : Ref sig .tc := ⟨.hbm, 352, rfl⟩
abbrev main_v141 : Ref sig .tc := ⟨.hbm, 353, rfl⟩
abbrev main_v142 : Ref sig .tc := ⟨.hbm, 354, rfl⟩
abbrev main_v143 : Ref sig .tc := ⟨.hbm, 355, rfl⟩
abbrev main_v144 : Ref sig .tc := ⟨.hbm, 356, rfl⟩
abbrev main_cst_15 : Ref sig .tc := ⟨.hbm, 357, rfl⟩
abbrev main_v145 : Ref sig .tc := ⟨.hbm, 358, rfl⟩
abbrev main_c_16 : Ref sig .tc := ⟨.hbm, 359, rfl⟩
abbrev main_v146 : Ref sig .tc := ⟨.hbm, 360, rfl⟩
abbrev main_v147 : Ref sig .tc := ⟨.hbm, 361, rfl⟩
abbrev main_c_17 : Ref sig .tc := ⟨.hbm, 362, rfl⟩
abbrev main_v148 : Ref sig .tc := ⟨.hbm, 363, rfl⟩
abbrev main_v149 : Ref sig .tc := ⟨.hbm, 364, rfl⟩
abbrev main_v150 : Ref sig .tc := ⟨.hbm, 365, rfl⟩
abbrev main_v151 : Ref sig .tc := ⟨.hbm, 366, rfl⟩
abbrev main_v152 : Ref sig .tc := ⟨.hbm, 367, rfl⟩
abbrev main_v153 : Ref sig .tc := ⟨.hbm, 368, rfl⟩
abbrev main_v154 : Ref sig .tc := ⟨.hbm, 369, rfl⟩
abbrev main_v155 : Ref sig .tc := ⟨.hbm, 370, rfl⟩
abbrev main_v156 : Ref sig .tc := ⟨.hbm, 371, rfl⟩
abbrev main_v157 : Ref sig .tc := ⟨.hbm, 372, rfl⟩
abbrev main_v158 : Ref sig .tc := ⟨.hbm, 373, rfl⟩
abbrev main_v159 : Ref sig .tc := ⟨.hbm, 374, rfl⟩
abbrev main_v160 : Ref sig .tc := ⟨.hbm, 375, rfl⟩
abbrev main_v161 : Ref sig .tc := ⟨.hbm, 376, rfl⟩
abbrev main_v162 : Ref sig .tc := ⟨.hbm, 377, rfl⟩
abbrev main_v163 : Ref sig .tc := ⟨.hbm, 378, rfl⟩
abbrev main_v164 : Ref sig .tc := ⟨.hbm, 379, rfl⟩
abbrev main_v165 : Ref sig .tc := ⟨.hbm, 380, rfl⟩
abbrev main_v166 : Ref sig .tc := ⟨.hbm, 381, rfl⟩
abbrev main_v167 : Ref sig .tc := ⟨.hbm, 382, rfl⟩
abbrev main_v168 : Ref sig .tc := ⟨.hbm, 383, rfl⟩
abbrev main_v169 : Ref sig .tc := ⟨.hbm, 384, rfl⟩
abbrev main_v170 : Ref sig .tc := ⟨.hbm, 385, rfl⟩
abbrev main_v171 : Ref sig .tc := ⟨.hbm, 386, rfl⟩
abbrev main_v172 : Ref sig .tc := ⟨.hbm, 387, rfl⟩
abbrev main_v173 : Ref sig .tc := ⟨.hbm, 388, rfl⟩
abbrev main_v174 : Ref sig .tc := ⟨.hbm, 389, rfl⟩
abbrev main_v175 : Ref sig .tc := ⟨.hbm, 390, rfl⟩
abbrev main_v176 : Ref sig .tc := ⟨.hbm, 391, rfl⟩
abbrev main_v177 : Ref sig .tc := ⟨.hbm, 392, rfl⟩
abbrev main_v178 : Ref sig .tc := ⟨.hbm, 393, rfl⟩
abbrev main_v179 : Ref sig .tc := ⟨.hbm, 394, rfl⟩
abbrev main_v180 : Ref sig .tc := ⟨.hbm, 395, rfl⟩
abbrev main_v181 : Ref sig .tc := ⟨.hbm, 396, rfl⟩
abbrev main_v182 : Ref sig .tc := ⟨.hbm, 397, rfl⟩
abbrev main_v183 : Ref sig .tc := ⟨.hbm, 398, rfl⟩
abbrev main_v184 : Ref sig .tc := ⟨.hbm, 399, rfl⟩
abbrev main_v185 : Ref sig .tc := ⟨.hbm, 400, rfl⟩
abbrev main_call10_cst : Ref sig .tc := ⟨.hbm, 401, rfl⟩
abbrev main_call10_v0 : Ref sig .tc := ⟨.hbm, 402, rfl⟩
abbrev main_call10_v1 : Ref sig .tc := ⟨.hbm, 403, rfl⟩
abbrev main_call10_v2 : Ref sig .tc := ⟨.hbm, 404, rfl⟩
abbrev main_call10_v3 : Ref sig .tc := ⟨.hbm, 405, rfl⟩
abbrev main_call10_v4 : Ref sig .tc := ⟨.hbm, 406, rfl⟩
abbrev main_call10_v5 : Ref sig .tc := ⟨.hbm, 407, rfl⟩
abbrev main_call10_v6 : Ref sig .tc := ⟨.hbm, 408, rfl⟩
abbrev main_call10_v7 : Ref sig .tc := ⟨.hbm, 409, rfl⟩
abbrev main_call10_v8 : Ref sig .tc := ⟨.hbm, 410, rfl⟩
abbrev main_call10_v9 : Ref sig .tc := ⟨.hbm, 411, rfl⟩
abbrev main_call10_v10 : Ref sig .tc := ⟨.hbm, 412, rfl⟩
abbrev main_call10_v11 : Ref sig .tc := ⟨.hbm, 413, rfl⟩
abbrev main_v186 : Ref sig .tc := ⟨.hbm, 414, rfl⟩
abbrev main_cst_18 : Ref sig .tc := ⟨.hbm, 415, rfl⟩
abbrev main_v187 : Ref sig .tc := ⟨.hbm, 416, rfl⟩
abbrev main_v188 : Ref sig .tc := ⟨.hbm, 417, rfl⟩
abbrev main_v189 : Ref sig .tc := ⟨.hbm, 418, rfl⟩
abbrev main_v190 : Ref sig .tc := ⟨.hbm, 419, rfl⟩
abbrev main_v191 : Ref sig .tc := ⟨.hbm, 420, rfl⟩
abbrev main_v192 : Ref sig .tc := ⟨.hbm, 421, rfl⟩
abbrev main_v193 : Ref sig .tc := ⟨.hbm, 422, rfl⟩
abbrev main_v194 : Ref sig .tc := ⟨.hbm, 423, rfl⟩
abbrev main_v195 : Ref sig .tc := ⟨.hbm, 424, rfl⟩
abbrev main_v196 : Ref sig .tc := ⟨.hbm, 425, rfl⟩
abbrev main_v197 : Ref sig .tc := ⟨.hbm, 426, rfl⟩
abbrev main_v198 : Ref sig .tc := ⟨.hbm, 427, rfl⟩
abbrev main_v199 : Ref sig .tc := ⟨.hbm, 428, rfl⟩
abbrev main_call11_cst : Ref sig .tc := ⟨.hbm, 429, rfl⟩
abbrev main_call11_v0 : Ref sig .tc := ⟨.hbm, 430, rfl⟩
abbrev main_call11_v1 : Ref sig .tc := ⟨.hbm, 431, rfl⟩
abbrev main_call11_v2 : Ref sig .tc := ⟨.hbm, 432, rfl⟩
abbrev main_call11_v3 : Ref sig .tc := ⟨.hbm, 433, rfl⟩
abbrev main_call11_v4 : Ref sig .tc := ⟨.hbm, 434, rfl⟩
abbrev main_call11_v5 : Ref sig .tc := ⟨.hbm, 435, rfl⟩
abbrev main_call11_v6 : Ref sig .tc := ⟨.hbm, 436, rfl⟩
abbrev main_call11_v7 : Ref sig .tc := ⟨.hbm, 437, rfl⟩
abbrev main_call11_v8 : Ref sig .tc := ⟨.hbm, 438, rfl⟩
abbrev main_call11_v9 : Ref sig .tc := ⟨.hbm, 439, rfl⟩
abbrev main_call11_v10 : Ref sig .tc := ⟨.hbm, 440, rfl⟩
abbrev main_call11_v11 : Ref sig .tc := ⟨.hbm, 441, rfl⟩
abbrev main_v200 : Ref sig .tc := ⟨.hbm, 442, rfl⟩
abbrev main_cst_19 : Ref sig .tc := ⟨.hbm, 443, rfl⟩
abbrev main_v201 : Ref sig .tc := ⟨.hbm, 444, rfl⟩
abbrev main_v202 : Ref sig .tc := ⟨.hbm, 445, rfl⟩
abbrev main_v203 : Ref sig .tc := ⟨.hbm, 446, rfl⟩
abbrev main_v204 : Ref sig .tc := ⟨.hbm, 447, rfl⟩
abbrev main_call12_c : Ref sig .tc := ⟨.hbm, 448, rfl⟩
abbrev main_call12_v0 : Ref sig .tc := ⟨.hbm, 449, rfl⟩
abbrev main_call12_v1 : Ref sig .tc := ⟨.hbm, 450, rfl⟩
abbrev main_call12_c_0 : Ref sig .tc := ⟨.hbm, 451, rfl⟩
abbrev main_call12_v2 : Ref sig .tc := ⟨.hbm, 452, rfl⟩
abbrev main_call12_v3 : Ref sig .tc := ⟨.hbm, 453, rfl⟩
abbrev main_call12_v4 : Ref sig .tc := ⟨.hbm, 454, rfl⟩
abbrev main_call12_v5 : Ref sig .tc := ⟨.hbm, 455, rfl⟩
abbrev main_call12_c_1 : Ref sig .tc := ⟨.hbm, 456, rfl⟩
abbrev main_call12_c_2 : Ref sig .tc := ⟨.hbm, 457, rfl⟩
abbrev main_call12_v6 : Ref sig .tc := ⟨.hbm, 458, rfl⟩
abbrev main_call12_v7 : Ref sig .tc := ⟨.hbm, 459, rfl⟩
abbrev main_call12_v8 : Ref sig .tc := ⟨.hbm, 460, rfl⟩
abbrev main_call12_v9 : Ref sig .tc := ⟨.hbm, 461, rfl⟩
abbrev main_call12_v10 : Ref sig .tc := ⟨.hbm, 462, rfl⟩
abbrev main_call12_v11 : Ref sig .tc := ⟨.hbm, 463, rfl⟩
abbrev main_call12_c_3 : Ref sig .tc := ⟨.hbm, 464, rfl⟩
abbrev main_call12_v12 : Ref sig .tc := ⟨.hbm, 465, rfl⟩
abbrev main_call12_v13 : Ref sig .tc := ⟨.hbm, 466, rfl⟩
abbrev main_call12_v14 : Ref sig .tc := ⟨.hbm, 467, rfl⟩
abbrev main_call12_cst : Ref sig .tc := ⟨.hbm, 468, rfl⟩
abbrev main_call12_v15 : Ref sig .tc := ⟨.hbm, 469, rfl⟩
abbrev main_v205 : Ref sig .tc := ⟨.hbm, 470, rfl⟩
abbrev main_v206 : Ref sig .tc := ⟨.hbm, 471, rfl⟩
abbrev main_v207 : Ref sig .tc := ⟨.hbm, 472, rfl⟩
abbrev main_v208 : Ref sig .tc := ⟨.hbm, 473, rfl⟩
abbrev main_v209 : Ref sig .tc := ⟨.hbm, 474, rfl⟩
abbrev main_cst_20 : Ref sig .tc := ⟨.hbm, 475, rfl⟩
abbrev main_v210 : Ref sig .tc := ⟨.hbm, 476, rfl⟩
abbrev main_c_21 : Ref sig .tc := ⟨.hbm, 477, rfl⟩
abbrev main_v211 : Ref sig .tc := ⟨.hbm, 478, rfl⟩
abbrev main_v212 : Ref sig .tc := ⟨.hbm, 479, rfl⟩
abbrev main_c_22 : Ref sig .tc := ⟨.hbm, 480, rfl⟩
abbrev main_v213 : Ref sig .tc := ⟨.hbm, 481, rfl⟩
abbrev main_v214 : Ref sig .tc := ⟨.hbm, 482, rfl⟩
abbrev main_v215 : Ref sig .tc := ⟨.hbm, 483, rfl⟩
abbrev main_v216 : Ref sig .tc := ⟨.hbm, 484, rfl⟩
abbrev main_v217 : Ref sig .tc := ⟨.hbm, 485, rfl⟩
abbrev main_v218 : Ref sig .tc := ⟨.hbm, 486, rfl⟩
abbrev main_v219 : Ref sig .tc := ⟨.hbm, 487, rfl⟩
abbrev main_v220 : Ref sig .tc := ⟨.hbm, 488, rfl⟩
abbrev main_v221 : Ref sig .tc := ⟨.hbm, 489, rfl⟩
abbrev main_v222 : Ref sig .tc := ⟨.hbm, 490, rfl⟩
abbrev main_v223 : Ref sig .tc := ⟨.hbm, 491, rfl⟩
abbrev main_v224 : Ref sig .tc := ⟨.hbm, 492, rfl⟩
abbrev main_v225 : Ref sig .tc := ⟨.hbm, 493, rfl⟩
abbrev main_v226 : Ref sig .tc := ⟨.hbm, 494, rfl⟩
abbrev main_v227 : Ref sig .tc := ⟨.hbm, 495, rfl⟩
abbrev main_v228 : Ref sig .tc := ⟨.hbm, 496, rfl⟩
abbrev main_v229 : Ref sig .tc := ⟨.hbm, 497, rfl⟩
abbrev main_v230 : Ref sig .tc := ⟨.hbm, 498, rfl⟩
abbrev main_v231 : Ref sig .tc := ⟨.hbm, 499, rfl⟩
abbrev main_v232 : Ref sig .tc := ⟨.hbm, 500, rfl⟩
abbrev main_v233 : Ref sig .tc := ⟨.hbm, 501, rfl⟩
abbrev main_v234 : Ref sig .tc := ⟨.hbm, 502, rfl⟩
abbrev main_v235 : Ref sig .tc := ⟨.hbm, 503, rfl⟩
abbrev main_v236 : Ref sig .tc := ⟨.hbm, 504, rfl⟩
abbrev main_v237 : Ref sig .tc := ⟨.hbm, 505, rfl⟩

abbrev nD : Nat := 1
abbrev τ : Topo := Topo.v7x

variable {F : FTy → Type} [FloatOps F]
-- ==== Proof.Run.lean ====
/- The kernel's run, read at every buffer that outlives it: each ends at the contents that the generated fold through the
   program gives.  The result array and the arguments are read off it. -/
module

public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

-- the launch theorem's implicit arguments are found by unifying its conclusion with this one
set_option backward.isDefEq.respectTransparency.types false in
/-- Every run of the kernel ends with each surviving buffer at the last contents of the fold. -/
theorem run_contents : θ_run defs (onTc (τ := τ) (main (F := Ideal))) ⟨m, fun _ => 0, ρ⟩ (fun r => ∀ c : Dev nD,
      ∀ b ∈ Pipeline.ucRefs τ sig, r.2.mem (((c : Thread nD τ)).1, b) = W25 m ρ c b) :=
  Pipeline.θ_run_regions_kit_sems (pcfgs (F := Ideal)) adm (pdats m ρ) () cellOf_inj emb₁ defs₀ 𝒱₀ L lv m ρ main
    (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := by refine ⟨?_, ?_, ?_, ?_, ?_, ?_, ?_, ?_, ?_, ?_, ?_, ?_, ?_, ?_, ?_, ?_, ?_, ?_, ?_, ?_, ?_, ?_, ?_, ?_, ?_, ?_⟩
               all_goals exact fun _ => .rfl)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h hz => h)

/-- Every run of the kernel ends with its result at the last contents of the fold, and with its arguments as launched. -/
theorem run_result : θ_run defs (onTc (τ := τ) (main (F := Ideal))) ⟨m, fun _ => 0, ρ⟩ (fun r => ∀ c : Dev nD,
      r.2.mem ((c.tc : Thread nD τ).loc main_v127) = W25 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v127 (by decide)),
    (h c _ (mem_uc main_arg0 (by decide))).trans (W25_main_arg0 m ρ c),
    (h c _ (mem_uc main_arg1 (by decide))).trans (W25_main_arg1 m ρ c),
    (h c _ (mem_uc main_arg2 (by decide))).trans (W25_main_arg2 m ρ c),
    (h c _ (mem_uc main_arg3 (by decide))).trans (W25_main_arg3 m ρ c),
    (h c _ (mem_uc main_arg4 (by decide))).trans (W25_main_arg4 m ρ c),
    (h c _ (mem_uc main_arg5 (by decide))).trans (W25_main_arg5 m ρ c),
    (h c _ (mem_uc main_arg6 (by decide))).trans (W25_main_arg6 m ρ c),
    (h c _ (mem_uc main_arg7 (by decide))).trans (W25_main_arg7 m ρ c),
    (h c _ (mem_uc main_arg8 (by decide))).trans (W25_main_arg8 m ρ c),
    (h c _ (mem_uc main_arg9 (by decide))).trans (W25_main_arg9 m ρ c),
    (h c _ (mem_uc main_arg10 (by decide))).trans (W25_main_arg10 m ρ c),
    (h c _ (mem_uc main_arg11 (by decide))).trans (W25_main_arg11 m ρ c),
    (h c _ (mem_uc main_arg12 (by decide))).trans (W25_main_arg12 m ρ c)⟩)
    (run_contents m ρ)

end Cert.Proof

end
-- ==== Proof.Math.lean ====
/- The mathematics of one edge's message, as functions over the extended reals: the shifted softplus, the Gaussian smearing
   of a distance on fifty centres, the filter's two layers and the cosine cutoff.  Both programs' message arrays are shown
   elsewhere to hold `message` at each edge and feature. -/
module

public import Idealize.ShloMosaic.PureOps.Ideal.Laws
public import Idealize.ShloMosaic.Lib.IdealHost

@[expose] public section

noncomputable section

namespace Cert.Proof

open Idealize.ShloMosaic

/-- The shifted softplus `log (1 + e^x) - log 2`, in the form that does not overflow. -/
def ssp (x : EReal) : EReal := max x 0 + Ideal.log (1 + Ideal.exp (-max x (-x))) - ((Real.log 2 : ℝ) : EReal)

/-- An edge's length from the square of it, with the small constant under the root. -/
def dist (s : EReal) : EReal := Ideal.sqrt (s + Ideal.ofBits .f32 0x2B8CBCCC#32)

/-- The `k`-th centre of the smearing: `k` steps of `5/49`. -/
def centre (k : Fin 50) : EReal := (((k.val : ℝ) * (5 / 49) : ℝ) : EReal)

/-- The Gaussian of an edge's length at the `k`-th centre. -/
def gauss (d : EReal) (k : Fin 50) : EReal :=
  Ideal.exp (((-2401 / 50 : ℝ) : EReal) * ((d - centre k) * (d - centre k)))

/-- The cosine cutoff of a length, zero from length 5 on. -/
def cutoff (d : EReal) : EReal :=
  if d < ((5 : ℝ) : EReal) then ((1 / 2 : ℝ) : EReal) * (Ideal.cos (d * ((2635359 / 4194304 : ℝ) : EReal)) + 1) else 0

/-- The filter's hidden layer at feature `j`. -/
def hidden (d : EReal) (w : Fin 50 → Fin 128 → EReal) (b : Fin 128 → EReal) (j : Fin 128) : EReal :=
  ssp ((∑ k, gauss d k * w k j) + b j)

/-- The filter at feature `j`. -/
def filter (d : EReal) (w : Fin 50 → Fin 128 → EReal) (b : Fin 128 → EReal) (w' : Fin 128 → Fin 128 → EReal)
    (b' : Fin 128 → EReal) (j : Fin 128) : EReal :=
  ssp ((∑ k, hidden d w b k * w' k j) + b' j)

/-- One feature of an edge's message: the source node's feature `h` times the filter times the cutoff, from the square `s`
    of the edge's length. -/
def message (s h : EReal) (w : Fin 50 → Fin 128 → EReal) (b : Fin 128 → EReal) (w' : Fin 128 → Fin 128 → EReal)
    (b' : Fin 128 → EReal) (j : Fin 128) : EReal :=
  h * filter (dist s) w b w' b' j * cutoff (dist s)

end Cert.Proof

end
-- ==== Proof.Consts.lean ====
/- The literals that the two programs spell, as the reals that their words denote.  This is the only module that opens the
   reading of a word as a number. -/
module

public import Idealize.ShloMosaic.PureOps.Ideal

@[expose] public section

noncomputable section

namespace Cert.Consts

open Idealize.ShloMosaic

/-- `0.5`. -/
theorem half : Ideal.ofBits .f32 0x3F000000#32 = ((1 / 2 : ℝ) : EReal) := by
  simp [Ideal.ofBits, Ideal.ieee, -EReal.coe_mul]; norm_num

/-- `-0.5`. -/
theorem neg_half : Ideal.ofBits .f32 0xBF000000#32 = ((-1 / 2 : ℝ) : EReal) := by
  simp [Ideal.ofBits, Ideal.ieee, -EReal.coe_mul, -EReal.coe_neg]; norm_num

/-- `2.0`. -/
theorem two : Ideal.ofBits .f32 0x40000000#32 = ((2 : ℝ) : EReal) := by
  simp [Ideal.ofBits, Ideal.ieee, -EReal.coe_mul]; norm_num

/-- `5.0`. -/
theorem five : Ideal.ofBits .f32 0x40A00000#32 = ((5 : ℝ) : EReal) := by
  simp [Ideal.ofBits, Ideal.ieee, -EReal.coe_mul]; norm_num

/-- `49.0`. -/
theorem fortyNine : Ideal.ofBits .f32 0x42440000#32 = ((49 : ℝ) : EReal) := by
  simp [Ideal.ofBits, Ideal.ieee, -EReal.coe_mul]; norm_num

/-- The float nearest to pi. -/
theorem pi : Ideal.ofBits .f32 0x40490FDB#32 = ((13176795 / 4194304 : ℝ) : EReal) := by
  simp [Ideal.ofBits, Ideal.ieee, -EReal.coe_mul]; norm_num

/-- The float that the kernel scales a length by inside the cosine: exactly a fifth of the float nearest to pi. -/
theorem piFifth : Ideal.ofBits .f32 0x3F20D97C#32 = ((2635359 / 4194304 : ℝ) : EReal) := by
  simp [Ideal.ofBits, Ideal.ieee, -EReal.coe_mul]; norm_num

end Cert.Consts

end
-- ==== Proof.RMsg.lean ====
/- The reference's message array, read at an edge and a feature.  `msgArr` is the reference's text from the squared lengths
   and the gathered features on, as a function of one block's weights; it holds `message`. -/
module

public import proofs.«01_k».proof.Proof.Math
public import proofs.«01_k».proof.Proof.Consts
public import proofs.«01_k».proof.Proof.Gen.ReferenceIdeal.Read
public import Idealize.ShloMosaic.Lib.Pointwise

@[expose] public section

set_option maxRecDepth 16384

noncomputable section

namespace Cert.Proof

open Idealize.ShloMosaic Cert.ReferenceIdeal Cert.ReferenceIdeal.Gen Cert.ReferenceIdeal.Read

/-- The reference's lengths from the squared lengths. -/
def distArr (d2 : FVec Ideal S320000 .f32) : FVec Ideal S320000 .f32 := Host.sqrt (addf d2 (val_main_v10 (F := Ideal)))

/-- The reference's Gaussians of the lengths. -/
def gaussArr (d : FVec Ideal S320000 .f32) : FVec Ideal S320000x50 .f32 :=
  let e := subf (broadcastInDim S320000x50 ![0, 1] bcast_S320000x1_S320000x50_0_1
    (broadcastInDim S320000x1 ![0] bcast_S320000_S320000x1_0 d)) (val_main_v24 (F := Ideal))
  Host.exp (mulf (val_main_v27 (F := Ideal)) (mulf e e))

/-- The reference's cutoff of the lengths. -/
def cutoffArr (d : FVec Ideal S320000 .f32) : FVec Ideal S320000 .f32 :=
  mulf (mulf (val_main_v37 (F := Ideal))
      (addf (Host.cos (Host.divf (mulf d (val_main_v30 (F := Ideal))) (val_main_v32 (F := Ideal))))
        (val_main_v35 (F := Ideal))))
    (uitofp .f32 (cmpf .olt d (val_main_v39 (F := Ideal))))

/-- The reference's shifted softplus, over all edges and features. -/
def sspArr (x : FVec Ideal S320000x128 .f32) : FVec Ideal S320000x128 .f32 :=
  let z : FVec Ideal S320000x128 .f32 := (val_main_call4_v0 (F := Ideal))
  subf (select (cmpf .une (subf x z) (subf x z)) (addf x z)
    (addf (maximumf x z) (Host.log1p (Host.exp (Host.negf (Host.absf (subf x z))))))) (val_main_v59 (F := Ideal))

/-- The reference's hidden layer. -/
def hiddenArr (d : FVec Ideal S320000 .f32) (w : FVec Ideal S50x128 .f32) (b : FVec Ideal S1x128 .f32) :
    FVec Ideal S320000x128 .f32 :=
  sspArr (addf (Host.dotGeneral dot_S320000x50_S50x128_S320000x128_1_0_0_1_n_n none (gaussArr d) w)
    (broadcastInDim S320000x128 ![0, 1] bcast_S1x128_S320000x128_0_1 b))

/-- The reference's filter, from its hidden layer. -/
def filterArr (y : FVec Ideal S320000x128 .f32) (w' : FVec Ideal S128x128 .f32) (b' : FVec Ideal S1x128 .f32) :
    FVec Ideal S320000x128 .f32 :=
  sspArr (addf (Host.dotGeneral dot_S320000x128_S128x128_S320000x128_1_0_0_1_n_n none y w')
    (broadcastInDim S320000x128 ![0, 1] bcast_S1x128_S320000x128_0_1 b'))

/-- The reference's messages from the squared lengths, the gathered features and a block's filter weights. -/
def msgArr (d2 : FVec Ideal S320000 .f32) (hg : FVec Ideal S320000x128 .f32) (w : FVec Ideal S50x128 .f32)
    (b : FVec Ideal S1x128 .f32) (w' : FVec Ideal S128x128 .f32) (b' : FVec Ideal S1x128 .f32) :
    FVec Ideal S320000x128 .f32 :=
  mulf (mulf hg (filterArr (hiddenArr (distArr d2) w b) w' b'))
    (broadcastInDim S320000x128 ![0, 1] bcast_S320000x1_S320000x128_0_1
      (broadcastInDim S320000x1 ![0] bcast_S320000_S320000x1_0 (cutoffArr (distArr d2))))

/-- The constants of the reference's smearing, read: its counter, and the two ends of its range. -/
theorem counter_coe (k : Fin 50) : FloatOps.sitofp (F := Ideal) .f32 (BitVec.ofNat 32 k.val) = ((k.val : ℝ) : EReal) := by
  have h : ∀ k : Fin 50, (BitVec.ofNat 32 k.val).toInt = (k.val : ℤ) := by decide
  change (((BitVec.ofNat 32 k.val).toInt : ℝ) : EReal) = _
  rw [h k]
  norm_cast

/-- A product with a fifth of the float pi is the product with the float pi, over five. -/
theorem mul_pi_div_five (d : EReal) :
    Ideal.div (d * ((13176795 / 4194304 : ℝ) : EReal)) ((5 : ℝ) : EReal) = d * ((2635359 / 4194304 : ℝ) : EReal) := by
  rw [Ideal.div_coe (by norm_num : (5 : ℝ) ≠ 0), mul_assoc, ← EReal.coe_mul]
  norm_num

/-- The reference's centres are fifty, `5/49` apart from zero. -/
theorem offsets_apply (k : Fin 50) : val_main_v13 (F := Ideal) (ix1 k) = centre k := by
  pointwise [val_main_v13, val_main_call3_v15, val_main_call3_v16, val_main_call3_v11, val_main_call3_v14, val_main_call3_v10,
    val_main_call3_v9, val_main_call3_v13, val_main_call3_v6, val_main_call3_v4, val_main_call3_v5, val_main_call3_v7,
    val_main_call3_v8, val_main_call3_v12, val_main_call3_v1, val_main_call3_v0, val_main_cst_1, val_main_cst_2,
    val_main_call3_cst_0, val_main_call3_cst_1, id]
  simp only [counter_coe, Consts.five, Consts.fortyNine, Ideal.div_coe (by norm_num : (49 : ℝ) ≠ 0), zero_mul, zero_add, centre]
  split
  · rw [← EReal.coe_mul, ← EReal.coe_mul]
    congr 1
    ring
  · have h : k.val = 49 := by omega
    rw [h]
    norm_num

/-- The reference's smearing coefficient is -2401/50. -/
theorem coeff_apply (i : S_.Idx) : val_main_v20 (F := Ideal) i = ((-2401 / 50 : ℝ) : EReal) := by
  pointwise [val_main_v20, val_main_v19, val_main_v18, val_main_v17, val_main_v16, val_main_v15, val_main_v14,
    val_main_cst_3]
  simp only [offsets_apply, centre, Consts.neg_half]
  rw [← EReal.coe_sub, ← EReal.coe_mul, Ideal.div_coe (by norm_num), ← EReal.coe_mul]
  norm_num

/-- The reference's lengths, read. -/
theorem dist_apply (d2 : FVec Ideal S320000 .f32) (e : Fin 320000) : distArr d2 (ix1 e) = dist (d2 (ix1 e)) := by
  pointwise [distArr, val_main_v10, val_main_cst_0]
  rfl

/-- The reference's Gaussians, read. -/
theorem gauss_apply (d : FVec Ideal S320000 .f32) (e : Fin 320000) (k : Fin 50) :
    gaussArr d (ix2 e k) = gauss (d (ix1 e)) k := by
  pointwise [gaussArr, val_main_v24, val_main_v22, val_main_v27]
  simp only [coeff_apply, offsets_apply]
  rfl

/-- The reference's cutoff, read. -/
theorem cutoff_apply (d : FVec Ideal S320000 .f32) (e : Fin 320000) : cutoffArr d (ix1 e) = cutoff (d (ix1 e)) := by
  pointwise [cutoffArr, val_main_v37, val_main_v30, val_main_v32, val_main_v35, val_main_v39, val_main_cst_4,
    val_main_cst_5, val_main_cst_6, val_main_cst_7, val_main_cst_8]
  simp only [Consts.pi, Consts.five, Consts.half, mul_pi_div_five]
  unfold cutoff
  by_cases h : d (ix1 e) < ((5 : ℝ) : EReal)
  · have h1 : FloatOps.uitofp (F := Ideal) .f32 (BitVec.ofBool true) = 1 := by
      change (((1 : ℕ) : ℝ) : EReal) = 1
      norm_num
    rw [decide_eq_true h, h1, mul_one, if_pos h]
  · have h0 : FloatOps.uitofp (F := Ideal) .f32 (BitVec.ofBool false) = 0 := by
      change (((0 : ℕ) : ℝ) : EReal) = 0
      norm_num
    rw [decide_eq_false h, h0, mul_zero, if_neg h]

/-- The reference's shifted softplus, read: no extended real differs from itself, so its guard never takes. -/
theorem ssp_apply (x : FVec Ideal S320000x128 .f32) (e : Fin 320000) (j : Fin 128) :
    sspArr x (ix2 e j) = ssp (x (ix2 e j)) := by
  pointwise [sspArr, val_main_call4_v0, val_main_call4_cst, val_main_v59, val_main_v58, val_main_v57, val_main_cst_9, id]
  simp only [Consts.two]
  have h2 : Ideal.log ((2 : ℝ) : EReal) = ((Real.log 2 : ℝ) : EReal) := by
    change (if (2 : ℝ) ≤ 0 then (⊥ : EReal) else ((Real.log 2 : ℝ) : EReal)) = _
    rw [if_neg (by norm_num)]
  rw [if_neg (fun h => h rfl), h2]
  rfl

/-- The reference's hidden layer, read. -/
theorem hidden_apply (d : FVec Ideal S320000 .f32) (w : FVec Ideal S50x128 .f32) (b : FVec Ideal S1x128 .f32)
    (e : Fin 320000) (j : Fin 128) :
    hiddenArr d w b (ix2 e j) = hidden (d (ix1 e)) (fun k l => w (ix2 k l)) (fun l => b (ix2 0 l)) j := by
  rw [hiddenArr, ssp_apply]
  pointwise []
  simp only [gauss_apply]
  rfl

/-- The reference's filter, read. -/
theorem filter_apply (d : FVec Ideal S320000 .f32) (w : FVec Ideal S50x128 .f32) (b : FVec Ideal S1x128 .f32)
    (w' : FVec Ideal S128x128 .f32) (b' : FVec Ideal S1x128 .f32) (e : Fin 320000) (j : Fin 128) :
    filterArr (hiddenArr d w b) w' b' (ix2 e j)
      = filter (d (ix1 e)) (fun k l => w (ix2 k l)) (fun l => b (ix2 0 l)) (fun k l => w' (ix2 k l)) (fun l => b' (ix2 0 l)) j := by
  rw [filterArr, ssp_apply]
  pointwise []
  simp only [hidden_apply]
  rfl

/-- The reference's messages, read: each is `message`. -/
theorem msg_apply (d2 : FVec Ideal S320000 .f32) (hg : FVec Ideal S320000x128 .f32) (w : FVec Ideal S50x128 .f32)
    (b : FVec Ideal S1x128 .f32) (w' : FVec Ideal S128x128 .f32) (b' : FVec Ideal S1x128 .f32) (e : Fin 320000)
    (j : Fin 128) :
    msgArr d2 hg w b w' b' (ix2 e j)
      = message (d2 (ix1 e)) (hg (ix2 e j)) (fun k l => w (ix2 k l)) (fun l => b (ix2 0 l)) (fun k l => w' (ix2 k l))
        (fun l => b' (ix2 0 l)) j := by
  pointwise [msgArr]
  simp only [filter_apply, cutoff_apply, dist_apply]
  rfl

end Cert.Proof

end
-- ==== Proof.Node.lean ====
/- The kernel's two node stages as the reference writes them: the product with a block's first weights, and the update of
   the node features. -/
module

public import proofs.«01_k».proof.Proof.Gen.KernelIdeal.Skeleton
public import proofs.«01_k».proof.Proof.Gen.ReferenceIdeal.Read
public import Idealize.ShloMosaic.Lib.KernelVsHost
public import Idealize.ShloMosaic.Lib.Pointwise

@[expose] public section

set_option maxRecDepth 16384

noncomputable section

namespace Cert.Proof

open Idealize.ShloMosaic Cert.ReferenceIdeal Cert.ReferenceIdeal.Gen

/-- The reference's product of the node features with a block's first weights. -/
def linArr (x : FVec Ideal S10000x128 .f32) (w : FVec Ideal S128x128 .f32) : FVec Ideal S10000x128 .f32 :=
  Host.dotGeneral dot_S10000x128_S128x128_S10000x128_1_0_0_1_n_n none x w

/-- A row of biases along every node. -/
def alongNodes (b : FVec Ideal S1x128 .f32) : FVec Ideal S10000x128 .f32 :=
  broadcastInDim S10000x128 ![0, 1] bcast_S1x128_S10000x128_0_1 b

/-- The reference's update of the node features `x` by the gathered messages `agg`. -/
def updArr (x agg : FVec Ideal S10000x128 .f32) (w : FVec Ideal S128x128 .f32) (b : FVec Ideal S1x128 .f32)
    (w' : FVec Ideal S128x128 .f32) (b' : FVec Ideal S1x128 .f32) : FVec Ideal S10000x128 .f32 :=
  addf x (addf (linArr (Host.tanh (addf (linArr agg w) (alongNodes b))) w') (alongNodes b'))

/-- What the kernel's first node stage stores is the reference's product. -/
theorem lin_pay (x : FVec Ideal S10000x128 .f32) (w : FVec Ideal S128x128 .f32) :
    Cert.KernelIdeal.Gen.k0_pay1 x w = linArr x w := by
  simp only [Cert.KernelIdeal.Gen.k0_pay1, shapeCast_id]
  exact matmul_zero_eq_dotGeneral _ _ x w

/-- The kernel's broadcast of a row of biases is the reference's. -/
theorem alongNodes_eq (b : FVec Ideal S1x128 .f32) (h : S1x128.Broadcasts S10000x128) :
    broadcastTo S10000x128 b h = alongNodes b := by
  funext i
  pointwise [alongNodes]

/-- What the kernel's second node stage stores is the reference's update. -/
theorem upd_pay (x agg : FVec Ideal S10000x128 .f32) (w : FVec Ideal S128x128 .f32) (b : FVec Ideal S1x128 .f32)
    (w' : FVec Ideal S128x128 .f32) (b' : FVec Ideal S1x128 .f32) :
    Cert.KernelIdeal.Gen.k2_pay1 agg w b w' b' x = updArr x agg w b w' b' := by
  simp only [Cert.KernelIdeal.Gen.k2_pay1, shapeCast_id, matmul_zero_eq_dotGeneral]
  rw [alongNodes_eq b, alongNodes_eq b']
  rfl

end Cert.Proof

end
-- ==== Proof.Block.lean ====
/- One block of the reference as a function of the arrays it starts from: the rows taken at the edges' sources, their
   messages, the messages summed at the edges' targets, the update.  The reference is three of these. -/
module

public import proofs.«01_k».proof.Proof.RMsg
public import proofs.«01_k».proof.Proof.Node

@[expose] public section

set_option maxRecDepth 16384

noncomputable section

namespace Cert.Proof

open Idealize.ShloMosaic Cert.ReferenceIdeal Cert.ReferenceIdeal.Gen Cert.ReferenceIdeal.Read

/-- An array of 32-bit integers. -/
abbrev Ints (s : Shape) : Type := (⟨s, .i32⟩ : BufTy).Contents (Elt Ideal)

/-- The reference's row numbers, one per edge: a negative one counts from the end. -/
def wrapped (i : Ints S320000) : Ints S320000x1 :=
  broadcastInDim S320000x1 ![0] bcast_S320000_S320000x1_0
    (select (cmpi .slt i (val_main_call1_v0 (F := Ideal))) (addi i (val_main_call1_v2 (F := Ideal))) i)

/-- Which row numbers are in range. -/
def inRange (j : Ints S320000x1) : (⟨S320000, .i1⟩ : BufTy).Contents (Elt Ideal) :=
  Host.reduce IntOp.andi (andi (cmpi .sge j (val_main_call1_v6 (F := Ideal))) (cmpi .sle j (val_main_call1_v9 (F := Ideal))))
    (val_main_call1_c_3 (F := Ideal)) reducesTo_S320000x1_S320000_d1 h_S_

/-- The positions taken at row numbers, as the reference takes them. -/
def takePos (p : FVec Ideal S10000x3 .f32) (i : Ints S320000) : FVec Ideal S320000x3 .f32 :=
  select (broadcastInDim S320000x3 ![0] bcast_S320000_S320000x3_0 (inRange (wrapped i)))
    (Host.gather gather_S10000x3_S320000x1_S320000x3_1_0_n_n_0_1_13 p (wrapped i)) (val_main_call1_v15 (F := Ideal))

/-- The node features taken at row numbers, as the reference takes them. -/
def takeRows (h : FVec Ideal S10000x128 .f32) (i : Ints S320000) : FVec Ideal S320000x128 .f32 :=
  select (broadcastInDim S320000x128 ![0] bcast_S320000_S320000x128_0 (inRange (wrapped i)))
    (Host.gather gather_S10000x128_S320000x1_S320000x128_1_0_n_n_0_1_1128 h (wrapped i)) (val_main_call6_v15 (F := Ideal))

/-- The squared lengths of the edges between two arrays of positions. -/
def sqLen (p q : FVec Ideal S320000x3 .f32) : FVec Ideal S320000 .f32 :=
  Host.reduceAdd (mulf (subf p q) (subf p q)) (val_main_cst (F := Ideal)) reducesTo_S320000x3_S320000_d1 h_S_

/-- The messages summed at row numbers, as the reference sums them. -/
def sumRows (i : Ints S320000) (msg : FVec Ideal S320000x128 .f32) : FVec Ideal S10000x128 .f32 :=
  Host.scatterAdd scatter_S10000x128_S320000x1_S320000x128_1_0_0_1 (val_main_v80 (F := Ideal)) (wrapped i) msg

/-- One block of the reference, from the node features `x`, the squared lengths, the edges' ends and the block's weights. -/
def blockArr (d2 : FVec Ideal S320000 .f32) (src dst : Ints S320000) (x : FVec Ideal S10000x128 .f32)
    (w₁ : FVec Ideal S128x128 .f32) (f₁ : FVec Ideal S50x128 .f32) (b₁ : FVec Ideal S1x128 .f32)
    (f₂ : FVec Ideal S128x128 .f32) (b₂ : FVec Ideal S1x128 .f32) (w₂ : FVec Ideal S128x128 .f32)
    (b₃ : FVec Ideal S1x128 .f32) (w₃ : FVec Ideal S128x128 .f32) (b₄ : FVec Ideal S1x128 .f32) :
    FVec Ideal S10000x128 .f32 :=
  updArr x (sumRows dst (msgArr d2 (takeRows (linArr x w₁) src) f₁ b₁ f₂ b₂)) w₂ b₃ w₃ b₄

variable (z : Ints S10000) (pos : FVec Ideal S10000x3 .f32) (edge : Ints S2x320000) (emb : FVec Ideal S100x128 .f32)
  (w₁ : FVec Ideal S3x128x128 .f32) (f₁ : FVec Ideal S3x128x50 .f32) (b₁ : FVec Ideal S3x128 .f32)
  (f₂ : FVec Ideal S3x128x128 .f32) (b₂ : FVec Ideal S3x128 .f32) (w₂ : FVec Ideal S3x128x128 .f32)
  (b₃ : FVec Ideal S3x128 .f32) (w₃ : FVec Ideal S3x128x128 .f32) (b₄ : FVec Ideal S3x128 .f32)

/-- The reference's squared lengths. -/
theorem ref_sqLen : val_main_v9 (F := Ideal) pos edge
    = sqLen (takePos pos (val_main_v4 (F := Ideal) edge)) (takePos pos (val_main_v2 (F := Ideal) edge)) := rfl

/-- The reference's first block. -/
theorem ref_block1 : val_main_v107 (F := Ideal) z pos edge emb w₁ f₁ b₁ f₂ b₂ w₂ b₃ w₃ b₄
    = blockArr (val_main_v9 (F := Ideal) pos edge) (val_main_v2 (F := Ideal) edge) (val_main_v4 (F := Ideal) edge)
        (val_main_v0 (F := Ideal) z emb) (val_main_v45 (F := Ideal) w₁) (val_main_v49 (F := Ideal) f₁)
        (val_main_v53 (F := Ideal) b₁) (val_main_v63 (F := Ideal) f₂) (val_main_v67 (F := Ideal) b₂)
        (val_main_v90 (F := Ideal) w₂) (val_main_v94 (F := Ideal) b₃) (val_main_v100 (F := Ideal) w₃)
        (val_main_v104 (F := Ideal) b₄) := rfl

/-- The reference's second block. -/
theorem ref_block2 : val_main_v172 (F := Ideal) z pos edge emb w₁ f₁ b₁ f₂ b₂ w₂ b₃ w₃ b₄
    = blockArr (val_main_v9 (F := Ideal) pos edge) (val_main_v2 (F := Ideal) edge) (val_main_v4 (F := Ideal) edge)
        (val_main_v107 (F := Ideal) z pos edge emb w₁ f₁ b₁ f₂ b₂ w₂ b₃ w₃ b₄) (val_main_v110 (F := Ideal) w₁)
        (val_main_v114 (F := Ideal) f₁) (val_main_v118 (F := Ideal) b₁) (val_main_v128 (F := Ideal) f₂)
        (val_main_v132 (F := Ideal) b₂) (val_main_v155 (F := Ideal) w₂) (val_main_v159 (F := Ideal) b₃)
        (val_main_v165 (F := Ideal) w₃) (val_main_v169 (F := Ideal) b₄) := rfl

/-- The reference's third block, its result. -/
theorem ref_block3 : val_main_v237 (F := Ideal) z pos edge emb w₁ f₁ b₁ f₂ b₂ w₂ b₃ w₃ b₄
    = blockArr (val_main_v9 (F := Ideal) pos edge) (val_main_v2 (F := Ideal) edge) (val_main_v4 (F := Ideal) edge)
        (val_main_v172 (F := Ideal) z pos edge emb w₁ f₁ b₁ f₂ b₂ w₂ b₃ w₃ b₄) (val_main_v175 (F := Ideal) w₁)
        (val_main_v179 (F := Ideal) f₁) (val_main_v183 (F := Ideal) b₁) (val_main_v193 (F := Ideal) f₂)
        (val_main_v197 (F := Ideal) b₂) (val_main_v220 (F := Ideal) w₂) (val_main_v224 (F := Ideal) b₃)
        (val_main_v230 (F := Ideal) w₃) (val_main_v234 (F := Ideal) b₄) := rfl

end Cert.Proof

end
-- ==== Proof.Host.lean ====
/- What the kernel's host operations leave, over any contents that a stretch of them is entered with, in the reference's
   words: the arrays taken at the edges' ends, the squared lengths, the messages summed, each block's weights. -/
module

public import proofs.«01_k».proof.Proof.Block
public import proofs.«01_k».proof.Proof.Gen.KernelIdeal.Launch
public import Idealize.ShloMosaic.Lib.StableHlo.Run

@[expose] public section

set_option maxRecDepth 16384

noncomputable section

namespace Cert.Proof

open Idealize.ShloMosaic Idealize.ShloMosaic.TcCoe Cert.KernelIdeal Cert.KernelIdeal.Gen
open Cert.ReferenceIdeal.Read

variable (V : Valuation τ sig (Elt Ideal))

/-- The edges' sources. -/
theorem host_src : StableHlo.after hostOps0 V (Proc.devRef .tc main_v1)
    = val_main_v2 (F := Ideal) (V (Proc.devRef .tc main_arg2)) := by
  after_results
  rfl

/-- The edges' targets. -/
theorem host_dst : StableHlo.after hostOps0 V (Proc.devRef .tc main_v3)
    = val_main_v4 (F := Ideal) (V (Proc.devRef .tc main_arg2)) := by
  after_results
  rfl

/-- The nodes' first features. -/
theorem host_nodes : StableHlo.after hostOps0_1 V (Proc.devRef .tc main_v4)
    = val_main_v0 (F := Ideal) (V (Proc.devRef .tc main_arg0)) (V (Proc.devRef .tc main_arg3)) := by
  after_results
  simp only [StableHlo.TRef.ofBuf_toBuf]
  simp -implicitDefEqProofs only [StableHlo.TRef.ofBuf, StableHlo.TRef.toBuf, cast_eq]
  rfl

/-- The positions at the edges' targets. -/
theorem host_posDst : StableHlo.after hostOps0_2 V (Proc.devRef .tc main_v5)
    = takePos (V (Proc.devRef .tc main_arg1)) (V (Proc.devRef .tc main_v3)) := by
  after_results
  simp only [StableHlo.TRef.ofBuf_toBuf]
  simp -implicitDefEqProofs only [StableHlo.TRef.ofBuf, StableHlo.TRef.toBuf, cast_eq]
  rfl

/-- The positions at the edges' sources. -/
theorem host_posSrc : StableHlo.after hostOps0_3 V (Proc.devRef .tc main_v6)
    = takePos (V (Proc.devRef .tc main_arg1)) (V (Proc.devRef .tc main_v1)) := by
  after_results
  simp only [StableHlo.TRef.ofBuf_toBuf]
  simp -implicitDefEqProofs only [StableHlo.TRef.ofBuf, StableHlo.TRef.toBuf, cast_eq]
  rfl

/-- The squared lengths, in a column. -/
theorem host_sqLen (e : Fin 320000) : (StableHlo.after hostOps0_4 V (Proc.devRef .tc main_v10) : FVec Ideal S320000x1 .f32) (ix2 e 0)
    = sqLen (V (Proc.devRef .tc main_v5)) (V (Proc.devRef .tc main_v6)) (ix1 e) := by
  after_results
  pointwise [sqLen, val_main_cst]

/-- The first block's first weights. -/
theorem host_w1_4 : StableHlo.after hostOps0_4 V (Proc.devRef .tc main_v13)
    = val_main_v45 (F := Ideal) (V (Proc.devRef .tc main_arg4)) := by
  after_results
  rfl

/-- The first block's rows at the edges' sources. -/
theorem host_take1 : StableHlo.after hostOps1 V (Proc.devRef .tc main_v15)
    = takeRows (V (Proc.devRef .tc main_v14)) (V (Proc.devRef .tc main_v1)) := by
  after_results
  simp only [StableHlo.TRef.ofBuf_toBuf]
  simp -implicitDefEqProofs only [StableHlo.TRef.ofBuf, StableHlo.TRef.toBuf, cast_eq]
  rfl

/-- The first block's first filter weights. -/
theorem host_w1_5 : StableHlo.after hostOps1_1 V (Proc.devRef .tc main_v18)
    = val_main_v49 (F := Ideal) (V (Proc.devRef .tc main_arg5)) := by
  after_results
  rfl

/-- The first block's first filter biases. -/
theorem host_w1_6 : StableHlo.after hostOps1_1 V (Proc.devRef .tc main_v21)
    = val_main_v53 (F := Ideal) (V (Proc.devRef .tc main_arg6)) := by
  after_results
  rfl

/-- The first block's second filter weights. -/
theorem host_w1_7 : StableHlo.after hostOps1_1 V (Proc.devRef .tc main_v24)
    = val_main_v63 (F := Ideal) (V (Proc.devRef .tc main_arg7)) := by
  after_results
  rfl

/-- The first block's second filter biases. -/
theorem host_w1_8 : StableHlo.after hostOps1_1 V (Proc.devRef .tc main_v27)
    = val_main_v67 (F := Ideal) (V (Proc.devRef .tc main_arg8)) := by
  after_results
  rfl

/-- The first block's messages summed at the edges' targets. -/
theorem host_sum1 : StableHlo.after hostOps2 V (Proc.devRef .tc main_v36)
    = sumRows (V (Proc.devRef .tc main_v3)) (V (Proc.devRef .tc main_v28)) := by
  after_results
  rfl

/-- The first block's first update weights. -/
theorem host_w1_9 : StableHlo.after hostOps2 V (Proc.devRef .tc main_v39)
    = val_main_v90 (F := Ideal) (V (Proc.devRef .tc main_arg9)) := by
  after_results
  rfl

/-- The first block's first update biases. -/
theorem host_w1_10 : StableHlo.after hostOps2 V (Proc.devRef .tc main_v42)
    = val_main_v94 (F := Ideal) (V (Proc.devRef .tc main_arg10)) := by
  after_results
  rfl

/-- The first block's second update weights. -/
theorem host_w1_11 : StableHlo.after hostOps2 V (Proc.devRef .tc main_v45)
    = val_main_v100 (F := Ideal) (V (Proc.devRef .tc main_arg11)) := by
  after_results
  rfl

/-- The first block's second update biases. -/
theorem host_w1_12 : StableHlo.after hostOps2 V (Proc.devRef .tc main_v48)
    = val_main_v104 (F := Ideal) (V (Proc.devRef .tc main_arg12)) := by
  after_results
  rfl

/-- The second block's first weights. -/
theorem host_w2_4 : StableHlo.after hostOps3 V (Proc.devRef .tc main_v52)
    = val_main_v110 (F := Ideal) (V (Proc.devRef .tc main_arg4)) := by
  after_results
  rfl

/-- The second block's rows at the edges' sources. -/
theorem host_take2 : StableHlo.after hostOps4 V (Proc.devRef .tc main_v54)
    = takeRows (V (Proc.devRef .tc main_v53)) (V (Proc.devRef .tc main_v1)) := by
  after_results
  simp only [StableHlo.TRef.ofBuf_toBuf]
  simp -implicitDefEqProofs only [StableHlo.TRef.ofBuf, StableHlo.TRef.toBuf, cast_eq]
  rfl

/-- The second block's first filter weights. -/
theorem host_w2_5 : StableHlo.after hostOps4_1 V (Proc.devRef .tc main_v57)
    = val_main_v114 (F := Ideal) (V (Proc.devRef .tc main_arg5)) := by
  after_results
  rfl

/-- The second block's first filter biases. -/
theorem host_w2_6 : StableHlo.after hostOps4_1 V (Proc.devRef .tc main_v60)
    = val_main_v118 (F := Ideal) (V (Proc.devRef .tc main_arg6)) := by
  after_results
  rfl

/-- The second block's second filter weights. -/
theorem host_w2_7 : StableHlo.after hostOps4_1 V (Proc.devRef .tc main_v63)
    = val_main_v128 (F := Ideal) (V (Proc.devRef .tc main_arg7)) := by
  after_results
  rfl

/-- The second block's second filter biases. -/
theorem host_w2_8 : StableHlo.after hostOps4_1 V (Proc.devRef .tc main_v66)
    = val_main_v132 (F := Ideal) (V (Proc.devRef .tc main_arg8)) := by
  after_results
  rfl

/-- The second block's messages summed at the edges' targets. -/
theorem host_sum2 : StableHlo.after hostOps5 V (Proc.devRef .tc main_v75)
    = sumRows (V (Proc.devRef .tc main_v3)) (V (Proc.devRef .tc main_v67)) := by
  after_results
  rfl

/-- The second block's first update weights. -/
theorem host_w2_9 : StableHlo.after hostOps5 V (Proc.devRef .tc main_v78)
    = val_main_v155 (F := Ideal) (V (Proc.devRef .tc main_arg9)) := by
  after_results
  rfl

/-- The second block's first update biases. -/
theorem host_w2_10 : StableHlo.after hostOps5 V (Proc.devRef .tc main_v81)
    = val_main_v159 (F := Ideal) (V (Proc.devRef .tc main_arg10)) := by
  after_results
  rfl

/-- The second block's second update weights. -/
theorem host_w2_11 : StableHlo.after hostOps5 V (Proc.devRef .tc main_v84)
    = val_main_v165 (F := Ideal) (V (Proc.devRef .tc main_arg11)) := by
  after_results
  rfl

/-- The second block's second update biases. -/
theorem host_w2_12 : StableHlo.after hostOps5 V (Proc.devRef .tc main_v87)
    = val_main_v169 (F := Ideal) (V (Proc.devRef .tc main_arg12)) := by
  after_results
  rfl

/-- The third block's first weights. -/
theorem host_w3_4 : StableHlo.after hostOps6 V (Proc.devRef .tc main_v91)
    = val_main_v175 (F := Ideal) (V (Proc.devRef .tc main_arg4)) := by
  after_results
  rfl

/-- The third block's rows at the edges' sources. -/
theorem host_take3 : StableHlo.after hostOps7 V (Proc.devRef .tc main_v93)
    = takeRows (V (Proc.devRef .tc main_v92)) (V (Proc.devRef .tc main_v1)) := by
  after_results
  simp only [StableHlo.TRef.ofBuf_toBuf]
  simp -implicitDefEqProofs only [StableHlo.TRef.ofBuf, StableHlo.TRef.toBuf, cast_eq]
  rfl

/-- The third block's first filter weights. -/
theorem host_w3_5 : StableHlo.after hostOps7_1 V (Proc.devRef .tc main_v96)
    = val_main_v179 (F := Ideal) (V (Proc.devRef .tc main_arg5)) := by
  after_results
  rfl

/-- The third block's first filter biases. -/
theorem host_w3_6 : StableHlo.after hostOps7_1 V (Proc.devRef .tc main_v99)
    = val_main_v183 (F := Ideal) (V (Proc.devRef .tc main_arg6)) := by
  after_results
  rfl

/-- The third block's second filter weights. -/
theorem host_w3_7 : StableHlo.after hostOps7_1 V (Proc.devRef .tc main_v102)
    = val_main_v193 (F := Ideal) (V (Proc.devRef .tc main_arg7)) := by
  after_results
  rfl

/-- The third block's second filter biases. -/
theorem host_w3_8 : StableHlo.after hostOps7_1 V (Proc.devRef .tc main_v105)
    = val_main_v197 (F := Ideal) (V (Proc.devRef .tc main_arg8)) := by
  after_results
  rfl

/-- The third block's messages summed at the edges' targets. -/
theorem host_sum3 : StableHlo.after hostOps8 V (Proc.devRef .tc main_v114)
    = sumRows (V (Proc.devRef .tc main_v3)) (V (Proc.devRef .tc main_v106)) := by
  after_results
  rfl

/-- The third block's first update weights. -/
theorem host_w3_9 : StableHlo.after hostOps8 V (Proc.devRef .tc main_v117)
    = val_main_v220 (F := Ideal) (V (Proc.devRef .tc main_arg9)) := by
  after_results
  rfl

/-- The third block's first update biases. -/
theorem host_w3_10 : StableHlo.after hostOps8 V (Proc.devRef .tc main_v120)
    = val_main_v224 (F := Ideal) (V (Proc.devRef .tc main_arg10)) := by
  after_results
  rfl

/-- The third block's second update weights. -/
theorem host_w3_11 : StableHlo.after hostOps8 V (Proc.devRef .tc main_v123)
    = val_main_v230 (F := Ideal) (V (Proc.devRef .tc main_arg11)) := by
  after_results
  rfl

/-- The third block's second update biases. -/
theorem host_w3_12 : StableHlo.after hostOps8 V (Proc.devRef .tc main_v126)
    = val_main_v234 (F := Ideal) (V (Proc.devRef .tc main_arg12)) := by
  after_results
  rfl

end Cert.Proof

end
-- ==== Proof.KMsg.lean ====
/- What the kernel's message body computes of one edge, in the words of Math.lean: the named constants are the reals that
   they stand for, and the stored block's entry at a row and a lane is `message` of the row's squared length. -/
module

public import proofs.«01_k».proof.Proof.Math
public import proofs.«01_k».proof.Proof.Consts
public import proofs.«01_k».proof.Proof.Gen.KernelIdeal.Skeleton
public import Idealize.ShloMosaic.Lib.Pointwise

@[expose] public section

set_option maxRecDepth 16384

noncomputable section

namespace Cert.Proof

open Idealize.ShloMosaic Cert.KernelIdeal Cert.KernelIdeal.Gen

/-- The kernel's smearing step is 5/49. -/
theorem step_eq : Named.named (F := Ideal) κ "step" (φ := .f32) 0x3DD0FAC7#32 = ((5 / 49 : ℝ) : EReal) :=
  IdealRules.named_const.ideal_named_scalar _ _ _ _ rfl

/-- The kernel's smearing coefficient is -2401/50. -/
theorem coeff_eq : Named.named (F := Ideal) κ "coeff" (φ := .f32) 0xC240147B#32 = ((-2401 / 50 : ℝ) : EReal) :=
  IdealRules.named_const.ideal_named_scalar _ _ _ _ rfl

/-- The kernel's shift of the softplus is log 2. -/
theorem log2_eq : Named.named (F := Ideal) κ "log2" (φ := .f32) 0x3F317218#32 = ((Real.log 2 : ℝ) : EReal) :=
  IdealRules.named_const.ideal_named_scalar _ _ _ _ rfl

/-- The kernel's centre is a counter, converted, times the step. -/
theorem counter_step (k : Fin 50) :
    FloatOps.sitofp (F := Ideal) .f32 (BitVec.ofNat 32 k.val) * ((5 / 49 : ℝ) : EReal) = centre k := by
  have h : ∀ k : Fin 50, (BitVec.ofNat 32 k.val).toInt = (k.val : ℤ) := by decide
  change (((BitVec.ofNat 32 k.val).toInt : ℝ) : EReal) * _ = _
  rw [h k, ← EReal.coe_mul]
  rfl

/-- The block of messages that the body stores: entry (r, j) is the message of row r's squared length and of the gathered
    feature (r, j), by the two layers of the filter. -/
theorem kmsg (x0 : Vec Ideal S5000x1 .f32) (x1 : Vec Ideal S5000x128 .f32) (x2 : Vec Ideal S50x128 .f32)
    (x3 : Vec Ideal S1x128 .f32) (x4 : Vec Ideal S128x128 .f32) (x5 : Vec Ideal S1x128 .f32) (r : Fin 5000) (j : Fin 128) :
    k1_pay1 (k1_pay2 x0) (k1_pay3 x0 x2 x3 x4) (k1_pay4 x5) x1 (ix2 r j)
      = message (x0 (ix2 r 0)) (x1 (ix2 r j)) (fun k l => x2 (ix2 k l)) (fun l => x3 (ix2 0 l)) (fun k l => x4 (ix2 k l))
          (fun l => x5 (ix2 0 l)) j := by
  pointwise [k1_pay1, k1_pay2, k1_pay3, k1_pay4]
  simp only [step_eq, coeff_eq, log2_eq, counter_step, Consts.half, Consts.five, Consts.piFifth, Ideal.absf_def, zero_sub]
  rfl

end Cert.Proof
end
-- ==== Proof.BlockMsg.lean ====
/- One block of the kernel's edge stage against the reference's message array: what the kernel stores at an index of a
   block is the reference's message at the index of the array that it is stored to. -/
module

public import proofs.«01_k».proof.Proof.KMsg
public import proofs.«01_k».proof.Proof.RMsg

@[expose] public section

set_option maxRecDepth 16384

noncomputable section

namespace Cert.Proof

open Idealize.ShloMosaic Cert.KernelIdeal Cert.KernelIdeal.Gen

/-- A block of 5000 edges, at its index `y`, against the array of all messages, at the index `z`: if the block's squared
    length and gathered feature are the arrays' there, and its weights are the arrays of weights, the two are equal.  The
    squared lengths stand in a column, `D`, whose entries are `d2`'s. -/
theorem block_message {x0 : FVec Ideal S5000x1 .f32} {x1 : FVec Ideal S5000x128 .f32} {x2 w : FVec Ideal S50x128 .f32}
    {x3 b : FVec Ideal S1x128 .f32} {x4 w' : FVec Ideal S128x128 .f32} {x5 b' : FVec Ideal S1x128 .f32}
    {D : FVec Ideal S320000x1 .f32} {d2 : FVec Ideal S320000 .f32} {hg : FVec Ideal S320000x128 .f32}
    {y : S5000x128.Idx} {z : S320000x128.Idx} (hD : ∀ e : Fin 320000, D (ix2 e 0) = d2 (ix1 e))
    (h0 : x0 (ix2 (y 0) 0) = D (ix2 (z 0) 0)) (h1 : x1 y = hg z) (h2 : x2 = w) (h3 : x3 = b) (h4 : x4 = w') (h5 : x5 = b')
    (hz : (z 1).val = (y 1).val) :
    k1_pay1 (k1_pay2 x0) (k1_pay3 x0 x2 x3 x4) (k1_pay4 x5) x1 y = msgArr d2 hg w b w' b' z := by
  have ez : z = ix2 (n0 := 320000) (n1 := 128) (z 0) (y 1) := by
    funext a; match a with | ⟨0, _⟩ => rfl | ⟨1, _⟩ => exact Fin.ext hz
  have ey : y = ix2 (n0 := 5000) (n1 := 128) (y 0) (y 1) := by
    funext a; match a with | ⟨0, _⟩ => rfl | ⟨1, _⟩ => rfl
  subst h2 h3 h4 h5
  have hk := kmsg x0 x1 x2 x3 x4 x5 (y 0) (y 1)
  have hr := msg_apply d2 hg x2 x3 x4 x5 (z 0) (y 1)
  rw [← ey] at hk
  rw [← ez] at hr
  rw [hk, hr, h0.trans (hD (z 0)), h1]

end Cert.Proof

end
-- ==== Proof.Regions1.lean ====
/- The array that the kernel's first edge stage leaves, over any contents that it is entered with: the reference's messages
   of the arrays that it reads. -/
module

public import proofs.«01_k».proof.Proof.BlockMsg
public import proofs.«01_k».proof.Proof.Gen.KernelIdeal.Frame.Region1
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- Where the stage's blocks stand: the lengths, the gathered features and the messages go by 5000 rows, the weights are
    whole. -/
theorem idx1 : ∀ t : Fin cfg1.N, win1_0.index t = ![t.val, 0] ∧ win1_1.index t = ![t.val, 0]
    ∧ win1_2.index t = ![0, 0] ∧ win1_3.index t = ![0, 0] ∧ win1_4.index t = ![0, 0] ∧ win1_5.index t = ![0, 0]
    ∧ win1_6.index t = ![t.val, 0] :=
  (by decide +kernel : ∀ t : Fin grid1.N, _)

-- every block's reads are placed one by one
set_option maxHeartbeats 1000000 in
/-- The first edge stage leaves the messages of the arrays that it reads. -/
theorem region1 (c : Dev nD) (d2 : FVec Ideal S320000 .f32) (h : ∀ e : Fin 320000, V c main_v10 (ix2 e 0) = d2 (ix1 e)) :
    (dat1 V c).arrAt 6 cfg1.N
      = msgArr d2 (V c main_v15) (V c main_v18) (V c main_v21) (V c main_v24) (V c main_v27) := by
  refine (dat1 V c).arrAt_eq_of_covers 6 _ (by decide +kernel) fun t _ y => ?_
  blk_simp
  rw [after1_6]; frame_out
  refine block_message h ?_ ?_ ?_ ?_ ?_ ?_ ?_
  case refine_1 => blk_ext [iblk1, idx1 t]
  case refine_2 => blk_ext [iblk1, idx1 t]
  case refine_7 => blk_simp [idx1 t]
  all_goals blk_ext! [iblk1, idx1 t]

end Cert.Proof

end
-- ==== Proof.Regions4.lean ====
/- The array that the kernel's second edge stage leaves, over any contents that it is entered with: the reference's messages
   of the arrays that it reads. -/
module

public import proofs.«01_k».proof.Proof.BlockMsg
public import proofs.«01_k».proof.Proof.Gen.KernelIdeal.Frame.Region4
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- Where the stage's blocks stand: the lengths, the gathered features and the messages go by 5000 rows, the weights are
    whole. -/
theorem idx4 : ∀ t : Fin cfg4.N, win4_0.index t = ![t.val, 0] ∧ win4_1.index t = ![t.val, 0]
    ∧ win4_2.index t = ![0, 0] ∧ win4_3.index t = ![0, 0] ∧ win4_4.index t = ![0, 0] ∧ win4_5.index t = ![0, 0]
    ∧ win4_6.index t = ![t.val, 0] :=
  (by decide +kernel : ∀ t : Fin grid4.N, _)

-- every block's reads are placed one by one
set_option maxHeartbeats 1000000 in
/-- The second edge stage leaves the messages of the arrays that it reads. -/
theorem region4 (c : Dev nD) (d2 : FVec Ideal S320000 .f32) (h : ∀ e : Fin 320000, V c main_v10 (ix2 e 0) = d2 (ix1 e)) :
    (dat4 V c).arrAt 6 cfg4.N
      = msgArr d2 (V c main_v54) (V c main_v57) (V c main_v60) (V c main_v63) (V c main_v66) := by
  refine (dat4 V c).arrAt_eq_of_covers 6 _ (by decide +kernel) fun t _ y => ?_
  blk_simp
  rw [after4_6]; frame_out
  refine block_message h ?_ ?_ ?_ ?_ ?_ ?_ ?_
  case refine_1 => blk_ext [iblk4, idx4 t]
  case refine_2 => blk_ext [iblk4, idx4 t]
  case refine_7 => blk_simp [idx4 t]
  all_goals blk_ext! [iblk4, idx4 t]

end Cert.Proof

end
-- ==== Proof.Regions7.lean ====
/- The array that the kernel's third edge stage leaves, over any contents that it is entered with: the reference's messages
   of the arrays that it reads. -/
module

public import proofs.«01_k».proof.Proof.BlockMsg
public import proofs.«01_k».proof.Proof.Gen.KernelIdeal.Frame.Region7
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- Where the stage's blocks stand: the lengths, the gathered features and the messages go by 5000 rows, the weights are
    whole. -/
theorem idx7 : ∀ t : Fin cfg7.N, win7_0.index t = ![t.val, 0] ∧ win7_1.index t = ![t.val, 0]
    ∧ win7_2.index t = ![0, 0] ∧ win7_3.index t = ![0, 0] ∧ win7_4.index t = ![0, 0] ∧ win7_5.index t = ![0, 0]
    ∧ win7_6.index t = ![t.val, 0] :=
  (by decide +kernel : ∀ t : Fin grid7.N, _)

-- every block's reads are placed one by one
set_option maxHeartbeats 1000000 in
/-- The third edge stage leaves the messages of the arrays that it reads. -/
theorem region7 (c : Dev nD) (d2 : FVec Ideal S320000 .f32) (h : ∀ e : Fin 320000, V c main_v10 (ix2 e 0) = d2 (ix1 e)) :
    (dat7 V c).arrAt 6 cfg7.N
      = msgArr d2 (V c main_v93) (V c main_v96) (V c main_v99) (V c main_v102) (V c main_v105) := by
  refine (dat7 V c).arrAt_eq_of_covers 6 _ (by decide +kernel) fun t _ y => ?_
  blk_simp
  rw [after7_6]; frame_out
  refine block_message h ?_ ?_ ?_ ?_ ?_ ?_ ?_
  case refine_1 => blk_ext [iblk7, idx7 t]
  case refine_2 => blk_ext [iblk7, idx7 t]
  case refine_7 => blk_simp [idx7 t]
  all_goals blk_ext! [iblk7, idx7 t]

end Cert.Proof

end
-- ==== Proof.RegionsLin.lean ====
/- The arrays that the kernel's three product stages leave, over any contents that they are entered with.  Each runs once, on
   whole arrays. -/
module

public import proofs.«01_k».proof.Proof.Node
public import proofs.«01_k».proof.Proof.Gen.KernelIdeal.Frame.Region0
public import proofs.«01_k».proof.Proof.Gen.KernelIdeal.Frame.Region3
public import proofs.«01_k».proof.Proof.Gen.KernelIdeal.Frame.Region6
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The first product's one block is each whole array. -/
theorem idx0 : win0_0.index t0_0 = ![0, 0] ∧ win0_1.index t0_0 = ![0, 0] := by decide +kernel

/-- The first product stage leaves the product of the arrays that it reads. -/
theorem region0 (c : Dev nD) : (dat0 V c).arrAt 2 cfg0.N = linArr (V c main_v4) (V c main_v13) := by
  refine ((dat0 V c).arrAt_eq_of_after_last 2 t0_0 (by decide +kernel) (k0_pay1 (V c main_v4) (V c main_v13))
    fun j => ?_).trans (lin_pay _ _)
  blk_simp
  rw [after0_2]; frame_out
  blk_point [iblk0, idx0]

/-- The second product's one block is each whole array. -/
theorem idx3 : win3_0.index t3_0 = ![0, 0] ∧ win3_1.index t3_0 = ![0, 0] := by decide +kernel

/-- The second product stage leaves the product of the arrays that it reads. -/
theorem region3 (c : Dev nD) : (dat3 V c).arrAt 2 cfg3.N = linArr (V c main_v49) (V c main_v52) := by
  refine ((dat3 V c).arrAt_eq_of_after_last 2 t3_0 (by decide +kernel) (k3_pay1 (V c main_v49) (V c main_v52))
    fun j => ?_).trans (lin_pay _ _)
  blk_simp
  rw [after3_2]; frame_out
  blk_point [iblk3, idx3]

/-- The third product's one block is each whole array. -/
theorem idx6 : win6_0.index t6_0 = ![0, 0] ∧ win6_1.index t6_0 = ![0, 0] := by decide +kernel

/-- The third product stage leaves the product of the arrays that it reads. -/
theorem region6 (c : Dev nD) : (dat6 V c).arrAt 2 cfg6.N = linArr (V c main_v88) (V c main_v91) := by
  refine ((dat6 V c).arrAt_eq_of_after_last 2 t6_0 (by decide +kernel) (k6_pay1 (V c main_v88) (V c main_v91))
    fun j => ?_).trans (lin_pay _ _)
  blk_simp
  rw [after6_2]; frame_out
  blk_point [iblk6, idx6]

end Cert.Proof

end
-- ==== Proof.RegionsUpd.lean ====
/- The arrays that the kernel's three update stages leave, over any contents that they are entered with.  Each runs once, on
   whole arrays. -/
module

public import proofs.«01_k».proof.Proof.Node
public import proofs.«01_k».proof.Proof.Gen.KernelIdeal.Frame.Region2
public import proofs.«01_k».proof.Proof.Gen.KernelIdeal.Frame.Region5
public import proofs.«01_k».proof.Proof.Gen.KernelIdeal.Frame.Region8
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The first update's one block is each whole array. -/
theorem idx2 : win2_0.index t2_0 = ![0, 0] ∧ win2_1.index t2_0 = ![0, 0] ∧ win2_2.index t2_0 = ![0, 0]
    ∧ win2_3.index t2_0 = ![0, 0] ∧ win2_4.index t2_0 = ![0, 0] ∧ win2_5.index t2_0 = ![0, 0] := by decide +kernel

-- every block's reads are placed one by one
set_option maxHeartbeats 1000000 in
/-- The first update stage leaves the update of the arrays that it reads. -/
theorem region2 (c : Dev nD) : (dat2 V c).arrAt 6 cfg2.N
    = updArr (V c main_v4) (V c main_v36) (V c main_v39) (V c main_v42) (V c main_v45) (V c main_v48) := by
  refine ((dat2 V c).arrAt_eq_of_after_last 6 t2_0 (by decide +kernel) (k2_pay1 (V c main_v36) (V c main_v39)
    (V c main_v42) (V c main_v45) (V c main_v48) (V c main_v4)) fun j => ?_).trans (upd_pay _ _ _ _ _ _)
  blk_simp
  rw [after2_6]; frame_out
  blk_point [iblk2, idx2]

/-- The second update's one block is each whole array. -/
theorem idx5 : win5_0.index t5_0 = ![0, 0] ∧ win5_1.index t5_0 = ![0, 0] ∧ win5_2.index t5_0 = ![0, 0]
    ∧ win5_3.index t5_0 = ![0, 0] ∧ win5_4.index t5_0 = ![0, 0] ∧ win5_5.index t5_0 = ![0, 0] := by decide +kernel

-- every block's reads are placed one by one
set_option maxHeartbeats 1000000 in
/-- The second update stage leaves the update of the arrays that it reads. -/
theorem region5 (c : Dev nD) : (dat5 V c).arrAt 6 cfg5.N
    = updArr (V c main_v49) (V c main_v75) (V c main_v78) (V c main_v81) (V c main_v84) (V c main_v87) := by
  refine ((dat5 V c).arrAt_eq_of_after_last 6 t5_0 (by decide +kernel) (k5_pay1 (V c main_v75) (V c main_v78)
    (V c main_v81) (V c main_v84) (V c main_v87) (V c main_v49)) fun j => ?_).trans (upd_pay _ _ _ _ _ _)
  blk_simp
  rw [after5_6]; frame_out
  blk_point [iblk5, idx5]

/-- The third update's one block is each whole array. -/
theorem idx8 : win8_0.index t8_0 = ![0, 0] ∧ win8_1.index t8_0 = ![0, 0] ∧ win8_2.index t8_0 = ![0, 0]
    ∧ win8_3.index t8_0 = ![0, 0] ∧ win8_4.index t8_0 = ![0, 0] ∧ win8_5.index t8_0 = ![0, 0] := by decide +kernel

-- every block's reads are placed one by one
set_option maxHeartbeats 1000000 in
/-- The third update stage leaves the update of the arrays that it reads. -/
theorem region8 (c : Dev nD) : (dat8 V c).arrAt 6 cfg8.N
    = updArr (V c main_v88) (V c main_v114) (V c main_v117) (V c main_v120) (V c main_v123) (V c main_v126) := by
  refine ((dat8 V c).arrAt_eq_of_after_last 6 t8_0 (by decide +kernel) (k8_pay1 (V c main_v114) (V c main_v117)
    (V c main_v120) (V c main_v123) (V c main_v126) (V c main_v88)) fun j => ?_).trans (upd_pay _ _ _ _ _ _)
  blk_simp
  rw [after8_6]; frame_out
  blk_point [iblk8, idx8]

end Cert.Proof

end
-- ==== Proof.Chain.lean ====
/- The kernel's contents through the program, block by block: each block leaves the reference's block of what it starts
   from, so the last leaves the reference's result. -/
module

public import proofs.«01_k».proof.Proof.Host
public import proofs.«01_k».proof.Proof.Regions1
public import proofs.«01_k».proof.Proof.Regions4
public import proofs.«01_k».proof.Proof.Regions7
public import proofs.«01_k».proof.Proof.RegionsLin
public import proofs.«01_k».proof.Proof.RegionsUpd
public import proofs.«01_k».proof.Proof.Gen.KernelIdeal.Frame

@[expose] public section

set_option maxRecDepth 16384

noncomputable section

namespace Cert.Proof

open Idealize.ShloMosaic Idealize.ShloMosaic.TcCoe Idealize.SL.Sem Cert.KernelIdeal Cert.KernelIdeal.Gen
open Cert.ReferenceIdeal.Read

/-- A block assembled from its five stages. -/
theorem block_of {d2 : FVec Ideal S320000 .f32} {src dst src' dst' : Ints S320000} {x x' u a y : FVec Ideal S10000x128 .f32}
    {h g : FVec Ideal S320000x128 .f32} {w₁ w₁' : FVec Ideal S128x128 .f32} {f₁ f₁' : FVec Ideal S50x128 .f32}
    {b₁ b₁' : FVec Ideal S1x128 .f32} {f₂ f₂' : FVec Ideal S128x128 .f32} {b₂ b₂' : FVec Ideal S1x128 .f32}
    {w₂ w₂' : FVec Ideal S128x128 .f32} {b₃ b₃' : FVec Ideal S1x128 .f32} {w₃ w₃' : FVec Ideal S128x128 .f32}
    {b₄ b₄' : FVec Ideal S1x128 .f32}
    (hu : u = linArr x w₁) (hh : h = takeRows u src') (hg : g = msgArr d2 h f₁ b₁ f₂ b₂) (ha : a = sumRows dst' g)
    (hy : y = updArr x' a w₂ b₃ w₃ b₄) (hx : x' = x) (hs : src' = src) (ht : dst' = dst) (h₁ : w₁ = w₁') (h₂ : f₁ = f₁')
    (h₃ : b₁ = b₁') (h₄ : f₂ = f₂') (h₅ : b₂ = b₂') (h₆ : w₂ = w₂') (h₇ : b₃ = b₃') (h₈ : w₃ = w₃') (h₉ : b₄ = b₄') :
    y = blockArr d2 src dst x w₁' f₁' b₁' f₂' b₂' w₂' b₃' w₃' b₄' := by
  subst hu hh hg ha hy hx hs ht h₁ h₂ h₃ h₄ h₅ h₆ h₇ h₈ h₉
  rfl

variable (m : (ℓ : Loc nD τ sig) → Buf (Elt Ideal) ℓ) (ρ : Dev nD → PrngReg) (c : Dev nD)

/-- The edges' sources when the first block starts. -/
theorem start_src : W5 m ρ c (Proc.devRef .tc main_v1) = val_main_v2 (F := Ideal) (m ((c : Thread nD τ).loc main_arg2)) :=
  (W5_of m ρ c main_v1 (by decide +kernel)).trans <| (W4_of m ρ c main_v1 (by decide +kernel)).trans <|
  (W3_of m ρ c main_v1 (by decide +kernel)).trans <| (W2_of m ρ c main_v1 (by decide +kernel)).trans <|
  host_src (W0 m ρ c)

/-- The edges' targets when the first block starts. -/
theorem start_dst : W5 m ρ c (Proc.devRef .tc main_v3) = val_main_v4 (F := Ideal) (m ((c : Thread nD τ).loc main_arg2)) :=
  (W5_of m ρ c main_v3 (by decide +kernel)).trans <| (W4_of m ρ c main_v3 (by decide +kernel)).trans <|
  (W3_of m ρ c main_v3 (by decide +kernel)).trans <| (W2_of m ρ c main_v3 (by decide +kernel)).trans <|
  host_dst (W0 m ρ c)

/-- The nodes' features when the first block starts. -/
theorem start_nodes : W5 m ρ c (Proc.devRef .tc main_v4)
    = val_main_v0 (F := Ideal) (m ((c : Thread nD τ).loc main_arg0)) (m ((c : Thread nD τ).loc main_arg3)) := by
  refine (W5_of m ρ c main_v4 (by decide +kernel)).trans <| (W4_of m ρ c main_v4 (by decide +kernel)).trans <|
    (W3_of m ρ c main_v4 (by decide +kernel)).trans <| (host_nodes (W1 m ρ c)).trans ?_
  rw [W1_args m ρ c main_arg0 (by decide), W1_args m ρ c main_arg3 (by decide)]

/-- The positions at the edges' targets, before the lengths are taken. -/
theorem start_posDst : W4 m ρ c (Proc.devRef .tc main_v5) = takePos (m ((c : Thread nD τ).loc main_arg1))
    (val_main_v4 (F := Ideal) (m ((c : Thread nD τ).loc main_arg2))) := by
  refine (W4_of m ρ c main_v5 (by decide +kernel)).trans <| (host_posDst (W2 m ρ c)).trans ?_
  rw [W2_args m ρ c main_arg1 (by decide), W2_of m ρ c main_v3 (by decide +kernel)]
  exact congrArg _ (host_dst (W0 m ρ c))

/-- The positions at the edges' sources, before the lengths are taken. -/
theorem start_posSrc : W4 m ρ c (Proc.devRef .tc main_v6) = takePos (m ((c : Thread nD τ).loc main_arg1))
    (val_main_v2 (F := Ideal) (m ((c : Thread nD τ).loc main_arg2))) := by
  refine (host_posSrc (W3 m ρ c)).trans ?_
  rw [W3_args m ρ c main_arg1 (by decide), W3_of m ρ c main_v1 (by decide +kernel), W2_of m ρ c main_v1 (by decide +kernel)]
  exact congrArg _ (host_src (W0 m ρ c))

/-- The squared lengths when the first block starts: a column of the reference's. -/
theorem start_sqLen (e : Fin 320000) : (W5 m ρ c (Proc.devRef .tc main_v10) : FVec Ideal S320000x1 .f32) (ix2 e 0)
    = val_main_v9 (F := Ideal) (m ((c : Thread nD τ).loc main_arg1)) (m ((c : Thread nD τ).loc main_arg2)) (ix1 e) := by
  refine (host_sqLen (W4 m ρ c) e).trans ?_
  rw [start_posDst, start_posSrc, ref_sqLen]

/-- What every block reads and none writes: the edges' ends and the squared lengths. -/
abbrev carried : List (Ref sig .tc) := [main_v1, main_v3, main_v10]

/-- No host operation of the blocks writes what is carried. -/
theorem carried_host : ∀ r ∈ carried, r ∉ hostOps1_W ∧ r ∉ hostOps1_1_W ∧ r ∉ hostOps2_W ∧ r ∉ hostOps3_W ∧ r ∉ hostOps4_W
    ∧ r ∉ hostOps4_1_W ∧ r ∉ hostOps5_W ∧ r ∉ hostOps6_W ∧ r ∉ hostOps7_W ∧ r ∉ hostOps7_1_W := by decide +kernel

/-- Region 0 writes nothing that is carried. -/
theorem carried_reg0 : ∀ r ∈ carried, ∀ w : Fin cfg0.W, Pipeline.arrRef spec0 w = r → (cfg0.win w).isOut = false := by
  decide +kernel
/-- Region 1 writes nothing that is carried. -/
theorem carried_reg1 : ∀ r ∈ carried, ∀ w : Fin cfg1.W, Pipeline.arrRef spec1 w = r → (cfg1.win w).isOut = false := by
  decide +kernel
/-- Region 2 writes nothing that is carried. -/
theorem carried_reg2 : ∀ r ∈ carried, ∀ w : Fin cfg2.W, Pipeline.arrRef spec2 w = r → (cfg2.win w).isOut = false := by
  decide +kernel
/-- Region 3 writes nothing that is carried. -/
theorem carried_reg3 : ∀ r ∈ carried, ∀ w : Fin cfg3.W, Pipeline.arrRef spec3 w = r → (cfg3.win w).isOut = false := by
  decide +kernel
/-- Region 4 writes nothing that is carried. -/
theorem carried_reg4 : ∀ r ∈ carried, ∀ w : Fin cfg4.W, Pipeline.arrRef spec4 w = r → (cfg4.win w).isOut = false := by
  decide +kernel
/-- Region 5 writes nothing that is carried. -/
theorem carried_reg5 : ∀ r ∈ carried, ∀ w : Fin cfg5.W, Pipeline.arrRef spec5 w = r → (cfg5.win w).isOut = false := by
  decide +kernel
/-- Region 6 writes nothing that is carried. -/
theorem carried_reg6 : ∀ r ∈ carried, ∀ w : Fin cfg6.W, Pipeline.arrRef spec6 w = r → (cfg6.win w).isOut = false := by
  decide +kernel
/-- Region 7 writes nothing that is carried. -/
theorem carried_reg7 : ∀ r ∈ carried, ∀ w : Fin cfg7.W, Pipeline.arrRef spec7 w = r → (cfg7.win w).isOut = false := by
  decide +kernel

/-- What is carried stands through the first block, to its sums. -/
theorem carried1 (r : Ref sig .tc) (hr : r ∈ carried) :
    W6 m ρ c (Proc.devRef .tc r) = W5 m ρ c (Proc.devRef .tc r)
    ∧ W8 m ρ c (Proc.devRef .tc r) = W5 m ρ c (Proc.devRef .tc r)
    ∧ W9 m ρ c (Proc.devRef .tc r) = W5 m ρ c (Proc.devRef .tc r)
    ∧ W12 m ρ c (Proc.devRef .tc r) = W5 m ρ c (Proc.devRef .tc r) := by
  obtain ⟨n1, n1', n2, n3, -⟩ := carried_host r hr
  have e6 := W6_of m ρ c r (carried_reg0 r hr)
  have e8 := (W8_of m ρ c r n1').trans <| (W7_of m ρ c r n1).trans e6
  have e9 := (W9_of m ρ c r (carried_reg1 r hr)).trans e8
  exact ⟨e6, e8, e9, (W12_of m ρ c r n3).trans <| (W11_of m ρ c r (carried_reg2 r hr)).trans <| (W10_of m ρ c r n2).trans e9⟩

/-- What is carried stands through the second block, to its sums. -/
theorem carried2 (r : Ref sig .tc) (hr : r ∈ carried) :
    W13 m ρ c (Proc.devRef .tc r) = W5 m ρ c (Proc.devRef .tc r)
    ∧ W15 m ρ c (Proc.devRef .tc r) = W5 m ρ c (Proc.devRef .tc r)
    ∧ W16 m ρ c (Proc.devRef .tc r) = W5 m ρ c (Proc.devRef .tc r)
    ∧ W19 m ρ c (Proc.devRef .tc r) = W5 m ρ c (Proc.devRef .tc r) := by
  obtain ⟨-, -, -, -, n4, n4', n5, n6, -⟩ := carried_host r hr
  have e13 := (W13_of m ρ c r (carried_reg3 r hr)).trans (carried1 m ρ c r hr).2.2.2
  have e15 := (W15_of m ρ c r n4').trans <| (W14_of m ρ c r n4).trans e13
  have e16 := (W16_of m ρ c r (carried_reg4 r hr)).trans e15
  exact ⟨e13, e15, e16, (W19_of m ρ c r n6).trans <| (W18_of m ρ c r (carried_reg5 r hr)).trans <| (W17_of m ρ c r n5).trans e16⟩

/-- What is carried stands through the third block, to its sums. -/
theorem carried3 (r : Ref sig .tc) (hr : r ∈ carried) :
    W20 m ρ c (Proc.devRef .tc r) = W5 m ρ c (Proc.devRef .tc r)
    ∧ W22 m ρ c (Proc.devRef .tc r) = W5 m ρ c (Proc.devRef .tc r)
    ∧ W23 m ρ c (Proc.devRef .tc r) = W5 m ρ c (Proc.devRef .tc r) := by
  obtain ⟨-, -, -, -, -, -, -, -, n7, n7'⟩ := carried_host r hr
  have e20 := (W20_of m ρ c r (carried_reg6 r hr)).trans (carried2 m ρ c r hr).2.2.2
  have e22 := (W22_of m ρ c r n7').trans <| (W21_of m ρ c r n7).trans e20
  exact ⟨e20, e22, (W23_of m ρ c r (carried_reg7 r hr)).trans e22⟩

/-- The first block leaves the reference's block of the features that it starts from. -/
theorem block1 : W11 m ρ c (Proc.devRef .tc main_v49)
    = blockArr (val_main_v9 (F := Ideal) (m ((c : Thread nD τ).loc main_arg1)) (m ((c : Thread nD τ).loc main_arg2)))
        (val_main_v2 (F := Ideal) (m ((c : Thread nD τ).loc main_arg2)))
        (val_main_v4 (F := Ideal) (m ((c : Thread nD τ).loc main_arg2)))
        (W5 m ρ c (Proc.devRef .tc main_v4))
        (val_main_v45 (F := Ideal) (m ((c : Thread nD τ).loc main_arg4)))
        (val_main_v49 (F := Ideal) (m ((c : Thread nD τ).loc main_arg5)))
        (val_main_v53 (F := Ideal) (m ((c : Thread nD τ).loc main_arg6)))
        (val_main_v63 (F := Ideal) (m ((c : Thread nD τ).loc main_arg7)))
        (val_main_v67 (F := Ideal) (m ((c : Thread nD τ).loc main_arg8)))
        (val_main_v90 (F := Ideal) (m ((c : Thread nD τ).loc main_arg9)))
        (val_main_v94 (F := Ideal) (m ((c : Thread nD τ).loc main_arg10)))
        (val_main_v100 (F := Ideal) (m ((c : Thread nD τ).loc main_arg11)))
        (val_main_v104 (F := Ideal) (m ((c : Thread nD τ).loc main_arg12))) :=
  block_of
    ((W6_arr m ρ c 2).trans (region0 (V5 m ρ) c))
    ((W8_of m ρ c main_v15 (by decide +kernel)).trans (host_take1 (W6 m ρ c)))
    ((W9_arr m ρ c 6).trans (region1 (V8 m ρ) c _ fun e =>
      (congrFun (carried1 m ρ c main_v10 (by decide)).2.1 (ix2 e 0)).trans (start_sqLen m ρ c e)))
    (host_sum1 (W9 m ρ c))
    ((W11_arr m ρ c 6).trans (region2 (V10 m ρ) c))
    ((W10_of m ρ c main_v4 (by decide +kernel)).trans <| (W9_of m ρ c main_v4 (by decide +kernel)).trans <|
      (W8_of m ρ c main_v4 (by decide +kernel)).trans <| (W7_of m ρ c main_v4 (by decide +kernel)).trans <|
      W6_of m ρ c main_v4 (by decide +kernel))
    ((carried1 m ρ c main_v1 (by decide)).1.trans (start_src m ρ c)) ((carried1 m ρ c main_v3 (by decide)).2.2.1.trans (start_dst m ρ c))
    ((host_w1_4 (W4 m ρ c)).trans (congrArg _ (W4_args m ρ c main_arg4 (by decide))))
    ((host_w1_5 (W7 m ρ c)).trans (congrArg _ (W7_args m ρ c main_arg5 (by decide))))
    ((host_w1_6 (W7 m ρ c)).trans (congrArg _ (W7_args m ρ c main_arg6 (by decide))))
    ((host_w1_7 (W7 m ρ c)).trans (congrArg _ (W7_args m ρ c main_arg7 (by decide))))
    ((host_w1_8 (W7 m ρ c)).trans (congrArg _ (W7_args m ρ c main_arg8 (by decide))))
    ((host_w1_9 (W9 m ρ c)).trans (congrArg _ (W9_args m ρ c main_arg9 (by decide))))
    ((host_w1_10 (W9 m ρ c)).trans (congrArg _ (W9_args m ρ c main_arg10 (by decide))))
    ((host_w1_11 (W9 m ρ c)).trans (congrArg _ (W9_args m ρ c main_arg11 (by decide))))
    ((host_w1_12 (W9 m ρ c)).trans (congrArg _ (W9_args m ρ c main_arg12 (by decide))))

/-- The second block leaves the reference's block of the features that it starts from. -/
theorem block2 : W18 m ρ c (Proc.devRef .tc main_v88)
    = blockArr (val_main_v9 (F := Ideal) (m ((c : Thread nD τ).loc main_arg1)) (m ((c : Thread nD τ).loc main_arg2)))
        (val_main_v2 (F := Ideal) (m ((c : Thread nD τ).loc main_arg2)))
        (val_main_v4 (F := Ideal) (m ((c : Thread nD τ).loc main_arg2)))
        (W12 m ρ c (Proc.devRef .tc main_v49))
        (val_main_v110 (F := Ideal) (m ((c : Thread nD τ).loc main_arg4)))
        (val_main_v114 (F := Ideal) (m ((c : Thread nD τ).loc main_arg5)))
        (val_main_v118 (F := Ideal) (m ((c : Thread nD τ).loc main_arg6)))
        (val_main_v128 (F := Ideal) (m ((c : Thread nD τ).loc main_arg7)))
        (val_main_v132 (F := Ideal) (m ((c : Thread nD τ).loc main_arg8)))
        (val_main_v155 (F := Ideal) (m ((c : Thread nD τ).loc main_arg9)))
        (val_main_v159 (F := Ideal) (m ((c : Thread nD τ).loc main_arg10)))
        (val_main_v165 (F := Ideal) (m ((c : Thread nD τ).loc main_arg11)))
        (val_main_v169 (F := Ideal) (m ((c : Thread nD τ).loc main_arg12))) :=
  block_of
    ((W13_arr m ρ c 2).trans (region3 (V12 m ρ) c))
    ((W15_of m ρ c main_v54 (by decide +kernel)).trans (host_take2 (W13 m ρ c)))
    ((W16_arr m ρ c 6).trans (region4 (V15 m ρ) c _ fun e =>
      (congrFun (carried2 m ρ c main_v10 (by decide)).2.1 (ix2 e 0)).trans (start_sqLen m ρ c e)))
    (host_sum2 (W16 m ρ c))
    ((W18_arr m ρ c 6).trans (region5 (V17 m ρ) c))
    ((W17_of m ρ c main_v49 (by decide +kernel)).trans <| (W16_of m ρ c main_v49 (by decide +kernel)).trans <|
      (W15_of m ρ c main_v49 (by decide +kernel)).trans <| (W14_of m ρ c main_v49 (by decide +kernel)).trans <|
      W13_of m ρ c main_v49 (by decide +kernel))
    ((carried2 m ρ c main_v1 (by decide)).1.trans (start_src m ρ c)) ((carried2 m ρ c main_v3 (by decide)).2.2.1.trans (start_dst m ρ c))
    ((host_w2_4 (W11 m ρ c)).trans (congrArg _ (W11_args m ρ c main_arg4 (by decide))))
    ((host_w2_5 (W14 m ρ c)).trans (congrArg _ (W14_args m ρ c main_arg5 (by decide))))
    ((host_w2_6 (W14 m ρ c)).trans (congrArg _ (W14_args m ρ c main_arg6 (by decide))))
    ((host_w2_7 (W14 m ρ c)).trans (congrArg _ (W14_args m ρ c main_arg7 (by decide))))
    ((host_w2_8 (W14 m ρ c)).trans (congrArg _ (W14_args m ρ c main_arg8 (by decide))))
    ((host_w2_9 (W16 m ρ c)).trans (congrArg _ (W16_args m ρ c main_arg9 (by decide))))
    ((host_w2_10 (W16 m ρ c)).trans (congrArg _ (W16_args m ρ c main_arg10 (by decide))))
    ((host_w2_11 (W16 m ρ c)).trans (congrArg _ (W16_args m ρ c main_arg11 (by decide))))
    ((host_w2_12 (W16 m ρ c)).trans (congrArg _ (W16_args m ρ c main_arg12 (by decide))))

/-- The third block leaves the reference's block of the features that it starts from. -/
theorem block3 : W25 m ρ c (Proc.devRef .tc main_v127)
    = blockArr (val_main_v9 (F := Ideal) (m ((c : Thread nD τ).loc main_arg1)) (m ((c : Thread nD τ).loc main_arg2)))
        (val_main_v2 (F := Ideal) (m ((c : Thread nD τ).loc main_arg2)))
        (val_main_v4 (F := Ideal) (m ((c : Thread nD τ).loc main_arg2)))
        (W19 m ρ c (Proc.devRef .tc main_v88))
        (val_main_v175 (F := Ideal) (m ((c : Thread nD τ).loc main_arg4)))
        (val_main_v179 (F := Ideal) (m ((c : Thread nD τ).loc main_arg5)))
        (val_main_v183 (F := Ideal) (m ((c : Thread nD τ).loc main_arg6)))
        (val_main_v193 (F := Ideal) (m ((c : Thread nD τ).loc main_arg7)))
        (val_main_v197 (F := Ideal) (m ((c : Thread nD τ).loc main_arg8)))
        (val_main_v220 (F := Ideal) (m ((c : Thread nD τ).loc main_arg9)))
        (val_main_v224 (F := Ideal) (m ((c : Thread nD τ).loc main_arg10)))
        (val_main_v230 (F := Ideal) (m ((c : Thread nD τ).loc main_arg11)))
        (val_main_v234 (F := Ideal) (m ((c : Thread nD τ).loc main_arg12))) :=
  block_of
    ((W20_arr m ρ c 2).trans (region6 (V19 m ρ) c))
    ((W22_of m ρ c main_v93 (by decide +kernel)).trans (host_take3 (W20 m ρ c)))
    ((W23_arr m ρ c 6).trans (region7 (V22 m ρ) c _ fun e =>
      (congrFun (carried3 m ρ c main_v10 (by decide)).2.1 (ix2 e 0)).trans (start_sqLen m ρ c e)))
    (host_sum3 (W23 m ρ c))
    ((W25_arr m ρ c 6).trans (region8 (V24 m ρ) c))
    ((W24_of m ρ c main_v88 (by decide +kernel)).trans <| (W23_of m ρ c main_v88 (by decide +kernel)).trans <|
      (W22_of m ρ c main_v88 (by decide +kernel)).trans <| (W21_of m ρ c main_v88 (by decide +kernel)).trans <|
      W20_of m ρ c main_v88 (by decide +kernel))
    ((carried3 m ρ c main_v1 (by decide)).1.trans (start_src m ρ c)) ((carried3 m ρ c main_v3 (by decide)).2.2.trans (start_dst m ρ c))
    ((host_w3_4 (W18 m ρ c)).trans (congrArg _ (W18_args m ρ c main_arg4 (by decide))))
    ((host_w3_5 (W21 m ρ c)).trans (congrArg _ (W21_args m ρ c main_arg5 (by decide))))
    ((host_w3_6 (W21 m ρ c)).trans (congrArg _ (W21_args m ρ c main_arg6 (by decide))))
    ((host_w3_7 (W21 m ρ c)).trans (congrArg _ (W21_args m ρ c main_arg7 (by decide))))
    ((host_w3_8 (W21 m ρ c)).trans (congrArg _ (W21_args m ρ c main_arg8 (by decide))))
    ((host_w3_9 (W23 m ρ c)).trans (congrArg _ (W23_args m ρ c main_arg9 (by decide))))
    ((host_w3_10 (W23 m ρ c)).trans (congrArg _ (W23_args m ρ c main_arg10 (by decide))))
    ((host_w3_11 (W23 m ρ c)).trans (congrArg _ (W23_args m ρ c main_arg11 (by decide))))
    ((host_w3_12 (W23 m ρ c)).trans (congrArg _ (W23_args m ρ c main_arg12 (by decide))))

/-- The kernel's result is the reference's, of the same arguments. -/
theorem kernel_result : W25 m ρ c (Proc.devRef .tc main_v127)
    = val_main_v237 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) := by
  rw [block3, W19_of m ρ c main_v88 (by decide +kernel), block2, W12_of m ρ c main_v49 (by decide +kernel), block1, start_nodes,
    ref_block3, ref_block2, ref_block1]

end Cert.Proof

end
-- ==== Proof.Claims.lean ====
/- The five claims, each a theorem: the three programs run and leave their arguments, the named constants are what their
   names say, and the kernel's result is the reference's. -/
module

public import proofs.«01_k».proof.Defs
public import proofs.«01_k».proof.Proof.Run
public import proofs.«01_k».proof.Proof.Chain
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.Proof

open Idealize.ShloMosaic Idealize.SL.Sem

/-- The kernel runs, and leaves its arguments. -/
theorem frame_kernel : Cert.quiescent_Kernel := fun m ρ _ => Cert.Kernel.Gen.frame m ρ

/-- The idealized kernel runs, and leaves its arguments. -/
theorem frame_kernelIdeal : Cert.quiescent_KernelIdeal := fun m ρ _ => Cert.KernelIdeal.Gen.frame m ρ

/-- The idealized reference runs, and leaves its arguments. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The three named constants are the reals that the table gives for their names. -/
theorem preserves_kernel : Cert.preserves_Kernel_KernelIdeal :=
  ⟨IdealRules.named_const.statement Cert.KernelIdeal.κ "step" .f32 0x3DD0FAC7#32 ((5 / 49 : ℝ) : EReal) rfl,
   IdealRules.named_const.statement Cert.KernelIdeal.κ "coeff" .f32 0xC240147B#32 ((-2401 / 50 : ℝ) : EReal) rfl,
   IdealRules.named_const.statement Cert.KernelIdeal.κ "log2" .f32 0x3F317218#32 ((Real.log 2 : ℝ) : EReal) rfl⟩

/-- From the same arguments, the idealized kernel and the idealized reference end with the same result. -/
theorem algebraic_kernel : Cert.algebraic_KernelIdeal_ReferenceIdeal := by
  intro m ρ m' ρ' _ hagree
  refine ⟨_, run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v237_eq (F := Ideal) (StableHlo.launchContents m' c)).trans ?_
  refine Eq.trans ?_ (kernel_result m ρ c).symm
  obtain ⟨h0, h1, h2, h3, h4, h5, h6, h7, h8, h9, h10, h11, h12⟩ := hagree c
  congr 1

end Cert.Proof

end
-- ==== Proof.lean ====
module

public import proofs.«01_k».proof.Defs
public import proofs.«01_k».proof.Proof.Claims
public import Idealize.ShloMosaic.Adequacy
public import Idealize.ShloMosaic.Init

@[expose] public section

noncomputable section

namespace Cert.Proof

/-- The certificate's claim. -/
theorem claim : Cert.Claim :=
  ⟨Cert.Kernel.Gen.facts, Cert.KernelIdeal.Gen.facts, Cert.ReferenceIdeal.Gen.facts, frame_kernel, frame_kernelIdeal,
    frame_referenceIdeal, preserves_kernel, algebraic_kernel⟩

end Cert.Proof

end
